-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v4_1)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v4_1) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_v8) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_v62) = v3 c
          ∧ r.2.mem ((c.tc : Thread Cert.ReferenceIdeal.nD Cert.ReferenceIdeal.τ).loc Cert.ReferenceIdeal.main_v63) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x4096 : Shape := ⟨3, ![1, 1024, 4096]⟩
abbrev S1x1024x11008 : Shape := ⟨3, ![1, 1024, 11008]⟩
abbrev S2048x11008 : Shape := ⟨2, ![2048, 11008]⟩
abbrev S32x11008 : Shape := ⟨2, ![32, 11008]⟩
abbrev S4096x64 : Shape := ⟨2, ![4096, 64]⟩
abbrev S64x11008 : Shape := ⟨2, ![64, 11008]⟩
abbrev S1024x4096 : Shape := ⟨2, ![1024, 4096]⟩
abbrev S1024x11008 : Shape := ⟨2, ![1024, 11008]⟩
abbrev S1024x64 : Shape := ⟨2, ![1024, 64]⟩
abbrev S1024x512 : Shape := ⟨2, ![1024, 512]⟩
abbrev S512x64 : Shape := ⟨2, ![512, 64]⟩
abbrev S1024x256 : Shape := ⟨2, ![1024, 256]⟩
abbrev S64x256 : Shape := ⟨2, ![64, 256]⟩
abbrev S256x11008 : Shape := ⟨2, ![256, 11008]⟩
abbrev S512x11008 : Shape := ⟨2, ![512, 11008]⟩
abbrev S256x256 : Shape := ⟨2, ![256, 256]⟩
abbrev S256x1x256 : Shape := ⟨3, ![256, 1, 256]⟩
abbrev S256x2x256 : Shape := ⟨3, ![256, 2, 256]⟩
abbrev S512x256 : Shape := ⟨2, ![512, 256]⟩
abbrev S1x256 : Shape := ⟨2, ![1, 256]⟩
abbrev S128x256 : Shape := ⟨2, ![128, 256]⟩
abbrev S1x1024x64 : Shape := ⟨3, ![1, 1024, 64]⟩

abbrev nBuf : Space → Nat
  | .hbm => 18
  | .vmem => 34
  | .smem => 0
  | _ => 0

abbrev bufTy : (tb : Table) → Fin (tcTables nBuf tb) → BufTy
  | .hbm, ⟨0, _⟩ => ⟨S1x1024x4096, .bf16⟩
  | .hbm, ⟨1, _⟩ => ⟨S1x1024x4096, .i8⟩
  | .hbm, ⟨2, _⟩ => ⟨S1x1024x11008, .bf16⟩
  | .hbm, ⟨3, _⟩ => ⟨S2048x11008, .i8⟩
  | .hbm, ⟨4, _⟩ => ⟨S32x11008, .bf16⟩
  | .hbm, ⟨5, _⟩ => ⟨S4096x64, .bf16⟩
  | .hbm, ⟨6, _⟩ => ⟨S64x11008, .bf16⟩
  | .hbm, ⟨7, _⟩ => ⟨S1024x4096, .bf16⟩
  | .hbm, ⟨8, _⟩ => ⟨S1024x4096, .i8⟩
  | .hbm, ⟨9, _⟩ => ⟨S1024x11008, .bf16⟩
  | .hbm, ⟨10, _⟩ => ⟨S1024x64, .bf16⟩
  | .hbm, ⟨11, _⟩ => ⟨S1024x64, .bf16⟩
  | .hbm, ⟨12, _⟩ => ⟨S64x11008, .f32⟩
  | .hbm, ⟨13, _⟩ => ⟨S1024x4096, .bf16⟩
  | .hbm, ⟨14, _⟩ => ⟨S4096x64, .f32⟩
  | .hbm, ⟨15, _⟩ => ⟨S1x1024x4096, .bf16⟩
  | .hbm, ⟨16, _⟩ => ⟨S1x1024x64, .bf16⟩
  | .hbm, ⟨17, _⟩ => ⟨S1x1024x64, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .i8⟩
  | .local _ .vmem, ⟨3, _⟩ => ⟨S1024x512, .i8⟩
  | .local _ .vmem, ⟨4, _⟩ => ⟨S512x64, .bf16⟩
  | .local _ .vmem, ⟨5, _⟩ => ⟨S512x64, .bf16⟩
  | .local _ .vmem, ⟨6, _⟩ => ⟨S1024x64, .bf16⟩
  | .local _ .vmem, ⟨7, _⟩ => ⟨S1024x64, .f32⟩
  | .local _ .vmem, ⟨8, _⟩ => ⟨S1024x256, .bf16⟩
  | .local _ .vmem, ⟨9, _⟩ => ⟨S1024x256, .bf16⟩
  | .local _ .vmem, ⟨10, _⟩ => ⟨S64x256, .bf16⟩
  | .local _ .vmem, ⟨11, _⟩ => ⟨S64x256, .bf16⟩
  | .local _ .vmem, ⟨12, _⟩ => ⟨S1024x64, .bf16⟩
  | .local _ .vmem, ⟨13, _⟩ => ⟨S1024x64, .bf16⟩
  | .local _ .vmem, ⟨14, _⟩ => ⟨S64x256, .f32⟩
  | .local _ .vmem, ⟨15, _⟩ => ⟨S64x256, .f32⟩
  | .local _ .vmem, ⟨16, _⟩ => ⟨S1024x64, .f32⟩
  | .local _ .vmem, ⟨17, _⟩ => ⟨S1024x11008, .bf16⟩
  | .local _ .vmem, ⟨18, _⟩ => ⟨S256x11008, .i8⟩
  | .local _ .vmem, ⟨19, _⟩ => ⟨S256x11008, .i8⟩
  | .local _ .vmem, ⟨20, _⟩ => ⟨S32x11008, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .i8⟩
  | .local _ .vmem, ⟨24, _⟩ => ⟨S1024x512, .i8⟩
  | .local _ .vmem, ⟨25, _⟩ => ⟨S512x64, .bf16⟩
  | .local _ .vmem, ⟨26, _⟩ => ⟨S512x64, .bf16⟩
  | .local _ .vmem, ⟨27, _⟩ => ⟨S1024x64, .bf16⟩
  | .local _ .vmem, ⟨28, _⟩ => ⟨S1024x512, .bf16⟩
  | .local _ .vmem, ⟨29, _⟩ => ⟨S1024x512, .bf16⟩
  | .local _ .vmem, ⟨30, _⟩ => ⟨S512x64, .f32⟩
  | .local _ .vmem, ⟨31, _⟩ => ⟨S512x64, .f32⟩
  | .local _ .vmem, ⟨32, _⟩ => ⟨S32x11008, .f32⟩
  | .local _ .vmem, ⟨33, _⟩ => ⟨S512x11008, .bf16⟩
  | _, _ => ⟨S1x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v5_0 : Ref sig .tc := ⟨.hbm, 13, rfl⟩
abbrev main_v5_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_scratch0 : Ref sig .tc := ⟨.vmem, 16, rfl⟩
abbrev cc2_stg0_0 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg5_1 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc2_stg8_0 : Ref sig .tc := ⟨.vmem, 30, rfl⟩
abbrev cc2_stg8_1 : Ref sig .tc := ⟨.vmem, 31, rfl⟩
abbrev cc2_scratch0 : Ref sig .tc := ⟨.vmem, 32, rfl⟩
abbrev cc2_scratch1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc2_sem4_0 : DmaSem sig := 21
abbrev cc2_sem4_1 : DmaSem sig := 22
abbrev cc2_sem5_0 : DmaSem sig := 23
abbrev cc2_sem5_1 : DmaSem sig := 24
abbrev cc2_sem6_0 : DmaSem sig := 25
abbrev cc2_sem7_0 : DmaSem sig := 26
abbrev cc2_sem7_1 : DmaSem sig := 27
abbrev cc2_sem8_0 : DmaSem sig := 28
abbrev cc2_sem8_1 : DmaSem sig := 29

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v21 : BitVec 1 := Scalar.cmpi .eq arg0 c7_i32
  let v22 : BitVec 32 := Scalar.extui v21
  let c0_i32_11 : BitVec 32 := 0#32
  let v23 : BitVec 1 := Scalar.cmpi .ne v22 c0_i32_11
  v23

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![43], ![false]⟩

def k1_cond2 (i : grid1.Coords) : BitVec 1 :=
  let arg0 : BitVec 32 := BitVec.ofNat 32 (i 0).val
  let c42_i32 : BitVec 32 := 42#32
  let v20 : BitVec 1 := Scalar.cmpi .eq arg0 c42_i32
  let v21 : BitVec 32 := Scalar.extui v20
  let c0_i32_16 : BitVec 32 := 0#32
  let v22 : BitVec 1 := Scalar.cmpi .ne v21 c0_i32_16
  v22

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S64x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![8], ![false]⟩

def k2_off1 (i : grid2.Coords) (c0_i32_4 : BitVec 32) : Fin 2 → Nat :=
  let arg0 : BitVec 32 := BitVec.ofNat 32 (i 0).val
  let c4_i32 : BitVec 32 := 4#32
  let v19 : BitVec 32 := Scalar.muli arg0 c4_i32
  let v20 : BitVec 32 := Scalar.addi v19 c0_i32_4
  let v21 : Index := Scalar.indexCast v20
  let c0_5 : Index := 0#32
  ![v21.toNat, 0]
def k2_off2 (i : grid2.Coords) (c0_i32_24 : BitVec 32) : Fin 2 → Nat :=
  let arg0 : BitVec 32 := BitVec.ofNat 32 (i 0).val
  let c4_i32_23 : BitVec 32 := 4#32
  let v79 : BitVec 32 := Scalar.muli arg0 c4_i32_23
  let v80 : BitVec 32 := Scalar.addi v79 c0_i32_24
  let v81 : Index := Scalar.indexCast v80
  let c256_25 : Index := 256#32
  ![v81.toNat, 256]
def k2_off3 (i : grid2.Coords) (c0_i32_49 : BitVec 32) : Fin 2 → Nat :=
  let arg0 : BitVec 32 := BitVec.ofNat 32 (i 0).val
  let c4_i32_48 : BitVec 32 := 4#32
  let v139 : BitVec 32 := Scalar.muli arg0 c4_i32_48
  let v140 : BitVec 32 := Scalar.addi v139 c0_i32_49
  let v141 : Index := Scalar.indexCast v140
  let c512_50 : Index := 512#32
  ![v141.toNat, 512]
def k2_off4 (i : grid2.Coords) (c0_i32_74 : BitVec 32) : Fin 2 → Nat :=
  let arg0 : BitVec 32 := BitVec.ofNat 32 (i 0).val
  let c4_i32_73 : BitVec 32 := 4#32
  let v199 : BitVec 32 := Scalar.muli arg0 c4_i32_73
  let v200 : BitVec 32 := Scalar.addi v199 c0_i32_74
  let v201 : Index := Scalar.indexCast v200
  let c768_75 : Index := 768#32
  ![v201.toNat, 768]
def k2_off5 (i : grid2.Coords) (c0_i32_99 : BitVec 32) : Fin 2 → Nat :=
  let arg0 : BitVec 32 := BitVec.ofNat 32 (i 0).val
  let c4_i32_98 : BitVec 32 := 4#32
  let v259 : BitVec 32 := Scalar.muli arg0 c4_i32_98
  let v260 : BitVec 32 := Scalar.addi v259 c0_i32_99
  let v261 : Index := Scalar.indexCast v260
  let c1024_100 : Index := 1024#32
  ![v261.toNat, 1024]
def k2_off6 (i : grid2.Coords) (c0_i32_124 : BitVec 32) : Fin 2 → Nat :=
  let arg0 : BitVec 32 := BitVec.ofNat 32 (i 0).val
  let c4_i32_123 : BitVec 32 := 4#32
  let v319 : BitVec 32 := Scalar.muli arg0 c4_i32_123
  let v320 : BitVec 32 := Scalar.addi v319 c0_i32_124
  let v321 : Index := Scalar.indexCast v320
  let c1280_125 : Index := 1280#32
  ![v321.toNat, 1280]
def k2_off7 (i : grid2.Coords) (c0_i32_149 : BitVec 32) : Fin 2 → Nat :=
  let arg0 : BitVec 32 := BitVec.ofNat 32 (i 0).val
  let c4_i32_148 : BitVec 32 := 4#32
  let v379 : BitVec 32 := Scalar.muli arg0 c4_i32_148
  let v380 : BitVec 32 := Scalar.addi v379 c0_i32_149
  let v381 : Index := Scalar.indexCast v380
  let c1536_150 : Index := 1536#32
  ![v381.toNat, 1536]
def k2_off8 (i : grid2.Coords) (c0_i32_174 : BitVec 32) : Fin 2 → Nat :=
  let arg0 : BitVec 32 := BitVec.ofNat 32 (i 0).val
  let c4_i32_173 : BitVec 32 := 4#32
  let v439 : BitVec 32 := Scalar.muli arg0 c4_i32_173
  let v440 : BitVec 32 := Scalar.addi v439 c0_i32_174
  let v441 : Index := Scalar.indexCast v440
  let c1792_175 : Index := 1792#32
  ![v441.toNat, 1792]
def k2_off9 (i : grid2.Coords) (c0_i32_199 : BitVec 32) : Fin 2 → Nat :=
  let arg0 : BitVec 32 := BitVec.ofNat 32 (i 0).val
  let c4_i32_198 : BitVec 32 := 4#32
  let v499 : BitVec 32 := Scalar.muli arg0 c4_i32_198
  let v500 : BitVec 32 := Scalar.addi v499 c0_i32_199
  let v501 : Index := Scalar.indexCast v500
  let c2048_200 : Index := 2048#32
  ![v501.toNat, 2048]
def k2_off10 (i : grid2.Coords) (c0_i32_224 : BitVec 32) : Fin 2 → Nat :=
  let arg0 : BitVec 32 := BitVec.ofNat 32 (i 0).val
  let c4_i32_223 : BitVec 32 := 4#32
  let v559 : BitVec 32 := Scalar.muli arg0 c4_i32_223
  let v560 : BitVec 32 := Scalar.addi v559 c0_i32_224
  let v561 : Index := Scalar.indexCast v560
  let c2304_225 : Index := 2304#32
  ![v561.toNat, 2304]
def k2_off11 (i : grid2.Coords) (c0_i32_249 : BitVec 32) : Fin 2 → Nat :=
  let arg0 : BitVec 32 := BitVec.ofNat 32 (i 0).val
  let c4_i32_248 : BitVec 32 := 4#32
  let v619 : BitVec 32 := Scalar.muli arg0 c4_i32_248
  let v620 : BitVec 32 := Scalar.addi v619 c0_i32_249
  let v621 : Index := Scalar.indexCast v620
  let c2560_250 : Index := 2560#32
  ![v621.toNat, 2560]
def k2_off12 (i : grid2.Coords) (c0_i32_274 : BitVec 32) : Fin 2 → Nat :=
  let arg0 : BitVec 32 := BitVec.ofNat 32 (i 0).val
  let c4_i32_273 : BitVec 32 := 4#32
  let v679 : BitVec 32 := Scalar.muli arg0 c4_i32_273
  let v680 : BitVec 32 := Scalar.addi v679 c0_i32_274
  let v681 : Index := Scalar.indexCast v680
  let c2816_275 : Index := 2816#32
  ![v681.toNat, 2816]
def k2_off13 (i : grid2.Coords) (c0_i32_299 : BitVec 32) : Fin 2 → Nat :=
  let arg0 : BitVec 32 := BitVec.ofNat 32 (i 0).val
  let c4_i32_298 : BitVec 32 := 4#32
  let v739 : BitVec 32 := Scalar.muli arg0 c4_i32_298
  let v740 : BitVec 32 := Scalar.addi v739 c0_i32_299
  let v741 : Index := Scalar.indexCast v740
  let c3072_300 : Index := 3072#32
  ![v741.toNat, 3072]
def k2_off14 (i : grid2.Coords) (c0_i32_324 : BitVec 32) : Fin 2 → Nat :=
  let arg0 : BitVec 32 := BitVec.ofNat 32 (i 0).val
  let c4_i32_323 : BitVec 32 := 4#32
  let v799 : BitVec 32 := Scalar.muli arg0 c4_i32_323
  let v800 : BitVec 32 := Scalar.addi v799 c0_i32_324
  let v801 : Index := Scalar.indexCast v800
  let c3328_325 : Index := 3328#32
  ![v801.toNat, 3328]
def k2_off15 (i : grid2.Coords) (c0_i32_349 : BitVec 32) : Fin 2 → Nat :=
  let arg0 : BitVec 32 := BitVec.ofNat 32 (i 0).val
  let c4_i32_348 : BitVec 32 := 4#32
  let v859 : BitVec 32 := Scalar.muli arg0 c4_i32_348
  let v860 : BitVec 32 := Scalar.addi v859 c0_i32_349
  let v861 : Index := Scalar.indexCast v860
  let c3584_350 : Index := 3584#32
  ![v861.toNat, 3584]
def k2_off16 (i : grid2.Coords) (c0_i32_374 : BitVec 32) : Fin 2 → Nat :=
  let arg0 : BitVec 32 := BitVec.ofNat 32 (i 0).val
  let c4_i32_373 : BitVec 32 := 4#32
  let v919 : BitVec 32 := Scalar.muli arg0 c4_i32_373
  let v920 : BitVec 32 := Scalar.addi v919 c0_i32_374
  let v921 : Index := Scalar.indexCast v920
  let c3840_375 : Index := 3840#32
  ![v921.toNat, 3840]
def k2_off17 (i : grid2.Coords) (c0_i32_399 : BitVec 32) : Fin 2 → Nat :=
  let arg0 : BitVec 32 := BitVec.ofNat 32 (i 0).val
  let c4_i32_398 : BitVec 32 := 4#32
  let v979 : BitVec 32 := Scalar.muli arg0 c4_i32_398
  let v980 : BitVec 32 := Scalar.addi v979 c0_i32_399
  let v981 : Index := Scalar.indexCast v980
  let c4096_400 : Index := 4096#32
  ![v981.toNat, 4096]
def k2_off18 (i : grid2.Coords) (c0_i32_424 : BitVec 32) : Fin 2 → Nat :=
  let arg0 : BitVec 32 := BitVec.ofNat 32 (i 0).val
  let c4_i32_423 : BitVec 32 := 4#32
  let v1039 : BitVec 32 := Scalar.muli arg0 c4_i32_423
  let v1040 : BitVec 32 := Scalar.addi v1039 c0_i32_424
  let v1041 : Index := Scalar.indexCast v1040
  let c4352_425 : Index := 4352#32
  ![v1041.toNat, 4352]
def k2_off19 (i : grid2.Coords) (c0_i32_449 : BitVec 32) : Fin 2 → Nat :=
  let arg0 : BitVec 32 := BitVec.ofNat 32 (i 0).val
  let c4_i32_448 : BitVec 32 := 4#32
  let v1099 : BitVec 32 := Scalar.muli arg0 c4_i32_448
  let v1100 : BitVec 32 := Scalar.addi v1099 c0_i32_449
  let v1101 : Index := Scalar.indexCast v1100
  let c4608_450 : Index := 4608#32
  ![v1101.toNat, 4608]
def k2_off20 (i : grid2.Coords) (c0_i32_474 : BitVec 32) : Fin 2 → Nat :=
  let arg0 : BitVec 32 := BitVec.ofNat 32 (i 0).val
  let c4_i32_473 : BitVec 32 := 4#32
  let v1159 : BitVec 32 := Scalar.muli arg0 c4_i32_473
  let v1160 : BitVec 32 := Scalar.addi v1159 c0_i32_474
  let v1161 : Index := Scalar.indexCast v1160
  let c4864_475 : Index := 4864#32
  ![v1161.toNat, 4864]
def k2_off21 (i : grid2.Coords) (c0_i32_499 : BitVec 32) : Fin 2 → Nat :=
  let arg0 : BitVec 32 := BitVec.ofNat 32 (i 0).val
  let c4_i32_498 : BitVec 32 := 4#32
  let v1219 : BitVec 32 := Scalar.muli arg0 c4_i32_498
  let v1220 : BitVec 32 := Scalar.addi v1219 c0_i32_499
  let v1221 : Index := Scalar.indexCast v1220
  let c5120_500 : Index := 5120#32
  ![v1221.toNat, 5120]
def k2_off22 (i : grid2.Coords) (c0_i32_524 : BitVec 32) : Fin 2 → Nat :=
  let arg0 : BitVec 32 := BitVec.ofNat 32 (i 0).val
  let c4_i32_523 : BitVec 32 := 4#32
  let v1279 : BitVec 32 := Scalar.muli arg0 c4_i32_523
  let v1280 : BitVec 32 := Scalar.addi v1279 c0_i32_524
  let v1281 : Index := Scalar.indexCast v1280
  let c5376_525 : Index := 5376#32
  ![v1281.toNat, 5376]
def k2_off23 (i : grid2.Coords) (c0_i32_549 : BitVec 32) : Fin 2 → Nat :=
  let arg0 : BitVec 32 := BitVec.ofNat 32 (i 0).val
  let c4_i32_548 : BitVec 32 := 4#32
  let v1339 : BitVec 32 := Scalar.muli arg0 c4_i32_548
  let v1340 : BitVec 32 := Scalar.addi v1339 c0_i32_549
  let v1341 : Index := Scalar.indexCast v1340
  let c5632_550 : Index := 5632#32
  ![v1341.toNat, 5632]
def k2_off24 (i : grid2.Coords) (c0_i32_574 : BitVec 32) : Fin 2 → Nat :=
  let arg0 : BitVec 32 := BitVec.ofNat 32 (i 0).val
  let c4_i32_573 : BitVec 32 := 4#32
  let v1399 : BitVec 32 := Scalar.muli arg0 c4_i32_573
  let v1400 : BitVec 32 := Scalar.addi v1399 c0_i32_574
  let v1401 : Index := Scalar.indexCast v1400
  let c5888_575 : Index := 5888#32
  ![v1401.toNat, 5888]
def k2_off25 (i : grid2.Coords) (c0_i32_599 : BitVec 32) : Fin 2 → Nat :=
  let arg0 : BitVec 32 := BitVec.ofNat 32 (i 0).val
  let c4_i32_598 : BitVec 32 := 4#32
  let v1459 : BitVec 32 := Scalar.muli arg0 c4_i32_598
  let v1460 : BitVec 32 := Scalar.addi v1459 c0_i32_599
  let v1461 : Index := Scalar.indexCast v1460
  let c6144_600 : Index := 6144#32
  ![v1461.toNat, 6144]
def k2_off26 (i : grid2.Coords) (c0_i32_624 : BitVec 32) : Fin 2 → Nat :=
  let arg0 : BitVec 32 := BitVec.ofNat 32 (i 0).val
  let c4_i32_623 : BitVec 32 := 4#32
  let v1519 : BitVec 32 := Scalar.muli arg0 c4_i32_623
  let v1520 : BitVec 32 := Scalar.addi v1519 c0_i32_624
  let v1521 : Index := Scalar.indexCast v1520
  let c6400_625 : Index := 6400#32
  ![v1521.toNat, 6400]
def k2_off27 (i : grid2.Coords) (c0_i32_649 : BitVec 32) : Fin 2 → Nat :=
  let arg0 : BitVec 32 := BitVec.ofNat 32 (i 0).val
  let c4_i32_648 : BitVec 32 := 4#32
  let v1579 : BitVec 32 := Scalar.muli arg0 c4_i32_648
  let v1580 : BitVec 32 := Scalar.addi v1579 c0_i32_649
  let v1581 : Index := Scalar.indexCast v1580
  let c6656_650 : Index := 6656#32
  ![v1581.toNat, 6656]
def k2_off28 (i : grid2.Coords) (c0_i32_674 : BitVec 32) : Fin 2 → Nat :=
  let arg0 : BitVec 32 := BitVec.ofNat 32 (i 0).val
  let c4_i32_673 : BitVec 32 := 4#32
  let v1639 : BitVec 32 := Scalar.muli arg0 c4_i32_673
  let v1640 : BitVec 32 := Scalar.addi v1639 c0_i32_674
  let v1641 : Index := Scalar.indexCast v1640
  let c6912_675 : Index := 6912#32
  ![v1641.toNat, 6912]
def k2_off29 (i : grid2.Coords) (c0_i32_699 : BitVec 32) : Fin 2 → Nat :=
  let arg0 : BitVec 32 := BitVec.ofNat 32 (i 0).val
  let c4_i32_698 : BitVec 32 := 4#32
  let v1699 : BitVec 32 := Scalar.muli arg0 c4_i32_698
  let v1700 : BitVec 32 := Scalar.addi v1699 c0_i32_699
  let v1701 : Index := Scalar.indexCast v1700
  let c7168_700 : Index := 7168#32
  ![v1701.toNat, 7168]
def k2_off30 (i : grid2.Coords) (c0_i32_724 : BitVec 32) : Fin 2 → Nat :=
  let arg0 : BitVec 32 := BitVec.ofNat 32 (i 0).val
  let c4_i32_723 : BitVec 32 := 4#32
  let v1759 : BitVec 32 := Scalar.muli arg0 c4_i32_723
  let v1760 : BitVec 32 := Scalar.addi v1759 c0_i32_724
  let v1761 : Index := Scalar.indexCast v1760
  let c7424_725 : Index := 7424#32
  ![v1761.toNat, 7424]
def k2_off31 (i : grid2.Coords) (c0_i32_749 : BitVec 32) : Fin 2 → Nat :=
  let arg0 : BitVec 32 := BitVec.ofNat 32 (i 0).val
  let c4_i32_748 : BitVec 32 := 4#32
  let v1819 : BitVec 32 := Scalar.muli arg0 c4_i32_748
  let v1820 : BitVec 32 := Scalar.addi v1819 c0_i32_749
  let v1821 : Index := Scalar.indexCast v1820
  let c7680_750 : Index := 7680#32
  ![v1821.toNat, 7680]
def k2_off32 (i : grid2.Coords) (c0_i32_774 : BitVec 32) : Fin 2 → Nat :=
  let arg0 : BitVec 32 := BitVec.ofNat 32 (i 0).val
  let c4_i32_773 : BitVec 32 := 4#32
  let v1879 : BitVec 32 := Scalar.muli arg0 c4_i32_773
  let v1880 : BitVec 32 := Scalar.addi v1879 c0_i32_774
  let v1881 : Index := Scalar.indexCast v1880
  let c7936_775 : Index := 7936#32
  ![v1881.toNat, 7936]
def k2_off33 (i : grid2.Coords) (c0_i32_799 : BitVec 32) : Fin 2 → Nat :=
  let arg0 : BitVec 32 := BitVec.ofNat 32 (i 0).val
  let c4_i32_798 : BitVec 32 := 4#32
  let v1939 : BitVec 32 := Scalar.muli arg0 c4_i32_798
  let v1940 : BitVec 32 := Scalar.addi v1939 c0_i32_799
  let v1941 : Index := Scalar.indexCast v1940
  let c8192_800 : Index := 8192#32
  ![v1941.toNat, 8192]
def k2_off34 (i : grid2.Coords) (c0_i32_824 : BitVec 32) : Fin 2 → Nat :=
  let arg0 : BitVec 32 := BitVec.ofNat 32 (i 0).val
  let c4_i32_823 : BitVec 32 := 4#32
  let v1999 : BitVec 32 := Scalar.muli arg0 c4_i32_823
  let v2000 : BitVec 32 := Scalar.addi v1999 c0_i32_824
  let v2001 : Index := Scalar.indexCast v2000
  let c8448_825 : Index := 8448#32
  ![v2001.toNat, 8448]
def k2_off35 (i : grid2.Coords) (c0_i32_849 : BitVec 32) : Fin 2 → Nat :=
  let arg0 : BitVec 32 := BitVec.ofNat 32 (i 0).val
  let c4_i32_848 : BitVec 32 := 4#32
  let v2059 : BitVec 32 := Scalar.muli arg0 c4_i32_848
  let v2060 : BitVec 32 := Scalar.addi v2059 c0_i32_849
  let v2061 : Index := Scalar.indexCast v2060
  let c8704_850 : Index := 8704#32
  ![v2061.toNat, 8704]
def k2_off36 (i : grid2.Coords) (c0_i32_874 : BitVec 32) : Fin 2 → Nat :=
  let arg0 : BitVec 32 := BitVec.ofNat 32 (i 0).val
  let c4_i32_873 : BitVec 32 := 4#32
  let v2119 : BitVec 32 := Scalar.muli arg0 c4_i32_873
  let v2120 : BitVec 32 := Scalar.addi v2119 c0_i32_874
  let v2121 : Index := Scalar.indexCast v2120
  let c8960_875 : Index := 8960#32
  ![v2121.toNat, 8960]
def k2_off37 (i : grid2.Coords) (c0_i32_899 : BitVec 32) : Fin 2 → Nat :=
  let arg0 : BitVec 32 := BitVec.ofNat 32 (i 0).val
  let c4_i32_898 : BitVec 32 := 4#32
  let v2179 : BitVec 32 := Scalar.muli arg0 c4_i32_898
  let v2180 : BitVec 32 := Scalar.addi v2179 c0_i32_899
  let v2181 : Index := Scalar.indexCast v2180
  let c9216_900 : Index := 9216#32
  ![v2181.toNat, 9216]
def k2_off38 (i : grid2.Coords) (c0_i32_924 : BitVec 32) : Fin 2 → Nat :=
  let arg0 : BitVec 32 := BitVec.ofNat 32 (i 0).val
  let c4_i32_923 : BitVec 32 := 4#32
  let v2239 : BitVec 32 := Scalar.muli arg0 c4_i32_923
  let v2240 : BitVec 32 := Scalar.addi v2239 c0_i32_924
  let v2241 : Index := Scalar.indexCast v2240
  let c9472_925 : Index := 9472#32
  ![v2241.toNat, 9472]
def k2_off39 (i : grid2.Coords) (c0_i32_949 : BitVec 32) : Fin 2 → Nat :=
  let arg0 : BitVec 32 := BitVec.ofNat 32 (i 0).val
  let c4_i32_948 : BitVec 32 := 4#32
  let v2299 : BitVec 32 := Scalar.muli arg0 c4_i32_948
  let v2300 : BitVec 32 := Scalar.addi v2299 c0_i32_949
  let v2301 : Index := Scalar.indexCast v2300
  let c9728_950 : Index := 9728#32
  ![v2301.toNat, 9728]
def k2_off40 (i : grid2.Coords) (c0_i32_974 : BitVec 32) : Fin 2 → Nat :=
  let arg0 : BitVec 32 := BitVec.ofNat 32 (i 0).val
  let c4_i32_973 : BitVec 32 := 4#32
  let v2359 : BitVec 32 := Scalar.muli arg0 c4_i32_973
  let v2360 : BitVec 32 := Scalar.addi v2359 c0_i32_974
  let v2361 : Index := Scalar.indexCast v2360
  let c9984_975 : Index := 9984#32
  ![v2361.toNat, 9984]
def k2_off41 (i : grid2.Coords) (c0_i32_999 : BitVec 32) : Fin 2 → Nat :=
  let arg0 : BitVec 32 := BitVec.ofNat 32 (i 0).val
  let c4_i32_998 : BitVec 32 := 4#32
  let v2419 : BitVec 32 := Scalar.muli arg0 c4_i32_998
  let v2420 : BitVec 32 := Scalar.addi v2419 c0_i32_999
  let v2421 : Index := Scalar.indexCast v2420
  let c10240_1000 : Index := 10240#32
  ![v2421.toNat, 10240]
def k2_off42 (i : grid2.Coords) (c0_i32_1024 : BitVec 32) : Fin 2 → Nat :=
  let arg0 : BitVec 32 := BitVec.ofNat 32 (i 0).val
  let c4_i32_1023 : BitVec 32 := 4#32
  let v2479 : BitVec 32 := Scalar.muli arg0 c4_i32_1023
  let v2480 : BitVec 32 := Scalar.addi v2479 c0_i32_1024
  let v2481 : Index := Scalar.indexCast v2480
  let c10496_1025 : Index := 10496#32
  ![v2481.toNat, 10496]
def k2_off43 (i : grid2.Coords) (c0_i32_1049 : BitVec 32) : Fin 2 → Nat :=
  let arg0 : BitVec 32 := BitVec.ofNat 32 (i 0).val
  let c4_i32_1048 : BitVec 32 := 4#32
  let v2539 : BitVec 32 := Scalar.muli arg0 c4_i32_1048
  let v2540 : BitVec 32 := Scalar.addi v2539 c0_i32_1049
  let v2541 : Index := Scalar.indexCast v2540
  let c10752_1050 : Index := 10752#32
  ![v2541.toNat, 10752]
def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S1024x11008 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S256x11008 .i8 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x11008 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1024x512 .i8 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x64 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1024x64 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1024x512 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S512x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]
-- ==== ReferenceIdeal.lean ====
abbrev S1x1024x4096 : Shape := ⟨3, ![1, 1024, 4096]⟩
abbrev S1x1024x11008 : Shape := ⟨3, ![1, 1024, 11008]⟩
abbrev S2048x11008 : Shape := ⟨2, ![2048, 11008]⟩
abbrev S32x11008 : Shape := ⟨2, ![32, 11008]⟩
abbrev S4096x64 : Shape := ⟨2, ![4096, 64]⟩
abbrev S64x11008 : Shape := ⟨2, ![64, 11008]⟩
abbrev S1024x4096 : Shape := ⟨2, ![1024, 4096]⟩
abbrev S1024x11008 : Shape := ⟨2, ![1024, 11008]⟩
abbrev S_ : Shape := ⟨0, ![]⟩
abbrev S32x64x11008 : Shape := ⟨3, ![32, 64, 11008]⟩
abbrev S32x1x11008 : Shape := ⟨3, ![32, 1, 11008]⟩
abbrev S1024x2048 : Shape := ⟨2, ![1024, 2048]⟩
abbrev S1024x2048x1 : Shape := ⟨3, ![1024, 2048, 1]⟩
abbrev S1024x2048x2 : Shape := ⟨3, ![1024, 2048, 2]⟩
abbrev S1024x64 : Shape := ⟨2, ![1024, 64]⟩
abbrev S1x1024x64 : Shape := ⟨3, ![1, 1024, 64]⟩

abbrev nBuf : Space → Nat
  | .hbm => 82
  | .vmem => 0
  | .smem => 0
  | _ => 0

abbrev bufTy : (tb : Table) → Fin (tcTables nBuf tb) → BufTy
  | .hbm, ⟨0, _⟩ => ⟨S1x1024x4096, .bf16⟩
  | .hbm, ⟨1, _⟩ => ⟨S1x1024x4096, .i8⟩
  | .hbm, ⟨2, _⟩ => ⟨S1x1024x11008, .bf16⟩
  | .hbm, ⟨3, _⟩ => ⟨S2048x11008, .i8⟩
  | .hbm, ⟨4, _⟩ => ⟨S32x11008, .bf16⟩
  | .hbm, ⟨5, _⟩ => ⟨S4096x64, .bf16⟩
  | .hbm, ⟨6, _⟩ => ⟨S64x11008, .bf16⟩
  | .hbm, ⟨7, _⟩ => ⟨S1024x4096, .bf16⟩
  | .hbm, ⟨8, _⟩ => ⟨S1024x11008, .bf16⟩
  | .hbm, ⟨9, _⟩ => ⟨S1024x4096, .i8⟩
  | .hbm, ⟨10, _⟩ => ⟨S1024x4096, .i32⟩
  | .hbm, ⟨11, _⟩ => ⟨S1024x4096, .f32⟩
  | .hbm, ⟨12, _⟩ => ⟨S2048x11008, .i32⟩
  | .hbm, ⟨13, _⟩ => ⟨S_, .i32⟩
  | .hbm, ⟨14, _⟩ => ⟨S2048x11008, .i32⟩
  | .hbm, ⟨15, _⟩ => ⟨S2048x11008, .i32⟩
  | .hbm, ⟨16, _⟩ => ⟨S_, .i32⟩
  | .hbm, ⟨17, _⟩ => ⟨S2048x11008, .i32⟩
  | .hbm, ⟨18, _⟩ => ⟨S2048x11008, .i1⟩
  | .hbm, ⟨19, _⟩ => ⟨S_, .i32⟩
  | .hbm, ⟨20, _⟩ => ⟨S2048x11008, .i32⟩
  | .hbm, ⟨21, _⟩ => ⟨S2048x11008, .i32⟩
  | .hbm, ⟨22, _⟩ => ⟨S2048x11008, .i32⟩
  | .hbm, ⟨23, _⟩ => ⟨S2048x11008, .bf16⟩
  | .hbm, ⟨24, _⟩ => ⟨S32x64x11008, .bf16⟩
  | .hbm, ⟨25, _⟩ => ⟨S32x1x11008, .bf16⟩
  | .hbm, ⟨26, _⟩ => ⟨S32x64x11008, .bf16⟩
  | .hbm, ⟨27, _⟩ => ⟨S32x64x11008, .bf16⟩
  | .hbm, ⟨28, _⟩ => ⟨S2048x11008, .bf16⟩
  | .hbm, ⟨29, _⟩ => ⟨S_, .i32⟩
  | .hbm, ⟨30, _⟩ => ⟨S2048x11008, .i32⟩
  | .hbm, ⟨31, _⟩ => ⟨S2048x11008, .i32⟩
  | .hbm, ⟨32, _⟩ => ⟨S_, .i32⟩
  | .hbm, ⟨33, _⟩ => ⟨S2048x11008, .i32⟩
  | .hbm, ⟨34, _⟩ => ⟨S2048x11008, .i1⟩
  | .hbm, ⟨35, _⟩ => ⟨S_, .i32⟩
  | .hbm, ⟨36, _⟩ => ⟨S2048x11008, .i32⟩
  | .hbm, ⟨37, _⟩ => ⟨S2048x11008, .i32⟩
  | .hbm, ⟨38, _⟩ => ⟨S2048x11008, .i32⟩
  | .hbm, ⟨39, _⟩ => ⟨S2048x11008, .bf16⟩
  | .hbm, ⟨40, _⟩ => ⟨S32x64x11008, .bf16⟩
  | .hbm, ⟨41, _⟩ => ⟨S32x1x11008, .bf16⟩
  | .hbm, ⟨42, _⟩ => ⟨S32x64x11008, .bf16⟩
  | .hbm, ⟨43, _⟩ => ⟨S32x64x11008, .bf16⟩
  | .hbm, ⟨44, _⟩ => ⟨S2048x11008, .bf16⟩
  | .hbm, ⟨45, _⟩ => ⟨S1024x2048, .f32⟩
  | .hbm, ⟨46, _⟩ => ⟨S1024x2048, .f32⟩
  | .hbm, ⟨47, _⟩ => ⟨S1024x2048x1, .f32⟩
  | .hbm, ⟨48, _⟩ => ⟨S1024x2048x1, .f32⟩
  | .hbm, ⟨49, _⟩ => ⟨S1024x2048x2, .f32⟩
  | .hbm, ⟨50, _⟩ => ⟨S1024x4096, .f32⟩
  | .hbm, ⟨51, _⟩ => ⟨S1024x64, .f32⟩
  | .hbm, ⟨52, _⟩ => ⟨S1024x64, .bf16⟩
  | .hbm, ⟨53, _⟩ => ⟨S1024x4096, .f32⟩
  | .hbm, ⟨54, _⟩ => ⟨S1024x4096, .f32⟩
  | .hbm, ⟨55, _⟩ => ⟨S_, .f32⟩
  | .hbm, ⟨56, _⟩ => ⟨S1024x4096, .f32⟩
  | .hbm, ⟨57, _⟩ => ⟨S1024x4096, .f32⟩
  | .hbm, ⟨58, _⟩ => ⟨S1024x4096, .bf16⟩
  | .hbm, ⟨59, _⟩ => ⟨S1024x64, .f32⟩
  | .hbm, ⟨60, _⟩ => ⟨S1024x64, .bf16⟩
  | .hbm, ⟨61, _⟩ => ⟨S1024x4096, .f32⟩
  | .hbm, ⟨62, _⟩ => ⟨S_, .f32⟩
  | .hbm, ⟨63, _⟩ => ⟨S1024x4096, .f32⟩
  | .hbm, ⟨64, _⟩ => ⟨S1024x4096, .f32⟩
  | .hbm, ⟨65, _⟩ => ⟨S1024x4096, .f32⟩
  | .hbm, ⟨66, _⟩ => ⟨S_, .f32⟩
  | .hbm, ⟨67, _⟩ => ⟨S1024x4096, .f32⟩
  | .hbm, ⟨68, _⟩ => ⟨S1024x4096, .f32⟩
  | .hbm, ⟨69, _⟩ => ⟨S1024x4096, .f32⟩
  | .hbm, ⟨70, _⟩ => ⟨S1024x4096, .bf16⟩
  | .hbm, ⟨71, _⟩ => ⟨S4096x64, .f32⟩
  | .hbm, ⟨72, _⟩ => ⟨S_, .f32⟩
  | .hbm, ⟨73, _⟩ => ⟨S4096x64, .f32⟩
  | .hbm, ⟨74, _⟩ => ⟨S4096x64, .f32⟩
  | .hbm, ⟨75, _⟩ => ⟨S64x11008, .f32⟩
  | .hbm, ⟨76, _⟩ => ⟨S_, .f32⟩
  | .hbm, ⟨77, _⟩ => ⟨S64x11008, .f32⟩
  | .hbm, ⟨78, _⟩ => ⟨S64x11008, .f32⟩
  | .hbm, ⟨79, _⟩ => ⟨S1x1024x4096, .bf16⟩
  | .hbm, ⟨80, _⟩ => ⟨S1x1024x64, .bf16⟩
  | .hbm, ⟨81, _⟩ => ⟨S1x1024x64, .bf16⟩
  | _, _ => ⟨S1x1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_5 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_6 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_7 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_8 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩

abbrev nD : Nat := 1
abbrev τ : Topo := Topo.v7x

variable {F : FTy → Type} [FloatOps F]
-- ==== Proof.Ideal.Rest.lean ====
/- The scoped buffers beside each call, each call's listed whole: what the regions' invariants are written over. -/
module

public import proofs.«01_k».proof.Proof.Gen.KernelIdeal.Launch

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The core's scoped buffers that are no staging buffer of custom_call 0, each whole at some contents:
    `cc0_scratch0`, `cc1_stg0_0`, `cc1_stg0_1`, `cc1_stg1_0`, `cc1_stg1_1`, `cc1_stg2_0`, `cc1_stg3_0`, `cc1_stg4_0`, `cc1_stg4_1`, `cc1_scratch0`, `cc2_stg0_0`, `cc2_stg1_0`, `cc2_stg1_1`, `cc2_stg2_0`, `cc2_stg3_0`, `cc2_stg3_1`, `cc2_stg4_0`, `cc2_stg4_1`, `cc2_stg5_0`, `cc2_stg5_1`, `cc2_stg6_0`, `cc2_stg7_0`, `cc2_stg7_1`, `cc2_stg8_0`, `cc2_stg8_1`, `cc2_scratch0`, `cc2_scratch1`. -/
theorem scopedRest0_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop((∃ f : Buf Val ((c : Thread nD τ).loc cc0_scratch0), ((c : Thread nD τ).loc cc0_scratch0) ↦{fullShare} f) ∗ (∃ f : Buf Val ((c : Thread nD τ).loc cc1_stg0_0), ((c : Thread nD τ).loc cc1_stg0_0) ↦{fullShare} f) ∗ (∃ f : Buf Val ((c : Thread nD τ).loc cc1_stg0_1), ((c : Thread nD τ).loc cc1_stg0_1) ↦{fullShare} f) ∗ (∃ f : Buf Val ((c : Thread nD τ).loc cc1_stg1_0), ((c : Thread nD τ).loc cc1_stg1_0) ↦{fullShare} f) ∗ (∃ f : Buf Val ((c : Thread nD τ).loc cc1_stg1_1), ((c : Thread nD τ).loc cc1_stg1_1) ↦{fullShare} f) ∗ (∃ f : Buf Val ((c : Thread nD τ).loc cc1_stg2_0), ((c : Thread nD τ).loc cc1_stg2_0) ↦{fullShare} f) ∗ (∃ f : Buf Val ((c : Thread nD τ).loc cc1_stg3_0), ((c : Thread nD τ).loc cc1_stg3_0) ↦{fullShare} f) ∗ (∃ f : Buf Val ((c : Thread nD τ).loc cc1_stg4_0), ((c : Thread nD τ).loc cc1_stg4_0) ↦{fullShare} f) ∗ (∃ f : Buf Val ((c : Thread nD τ).loc cc1_stg4_1), ((c : Thread nD τ).loc cc1_stg4_1) ↦{fullShare} f) ∗ (∃ f : Buf Val ((c : Thread nD τ).loc cc1_scratch0), ((c : Thread nD τ).loc cc1_scratch0) ↦{fullShare} f) ∗ (∃ f : Buf Val ((c : Thread nD τ).loc cc2_stg0_0), ((c : Thread nD τ).loc cc2_stg0_0) ↦{fullShare} f) ∗ (∃ f : Buf Val ((c : Thread nD τ).loc cc2_stg1_0), ((c : Thread nD τ).loc cc2_stg1_0) ↦{fullShare} f) ∗ (∃ f : Buf Val ((c : Thread nD τ).loc cc2_stg1_1), ((c : Thread nD τ).loc cc2_stg1_1) ↦{fullShare} f) ∗ (∃ f : Buf Val ((c : Thread nD τ).loc cc2_stg2_0), ((c : Thread nD τ).loc cc2_stg2_0) ↦{fullShare} f) ∗ (∃ f : Buf Val ((c : Thread nD τ).loc cc2_stg3_0), ((c : Thread nD τ).loc cc2_stg3_0) ↦{fullShare} f) ∗ (∃ f : Buf Val ((c : Thread nD τ).loc cc2_stg3_1), ((c : Thread nD τ).loc cc2_stg3_1) ↦{fullShare} f) ∗ (∃ f : Buf Val ((c : Thread nD τ).loc cc2_stg4_0), ((c : Thread nD τ).loc cc2_stg4_0) ↦{fullShare} f) ∗ (∃ f : Buf Val ((c : Thread nD τ).loc cc2_stg4_1), ((c : Thread nD τ).loc cc2_stg4_1) ↦{fullShare} f) ∗ (∃ f : Buf Val ((c : Thread nD τ).loc cc2_stg5_0), ((c : Thread nD τ).loc cc2_stg5_0) ↦{fullShare} f) ∗ (∃ f : Buf Val ((c : Thread nD τ).loc cc2_stg5_1), ((c : Thread nD τ).loc cc2_stg5_1) ↦{fullShare} f) ∗ (∃ f : Buf Val ((c : Thread nD τ).loc cc2_stg6_0), ((c : Thread nD τ).loc cc2_stg6_0) ↦{fullShare} f) ∗ (∃ f : Buf Val ((c : Thread nD τ).loc cc2_stg7_0), ((c : Thread nD τ).loc cc2_stg7_0) ↦{fullShare} f) ∗ (∃ f : Buf Val ((c : Thread nD τ).loc cc2_stg7_1), ((c : Thread nD τ).loc cc2_stg7_1) ↦{fullShare} f) ∗ (∃ f : Buf Val ((c : Thread nD τ).loc cc2_stg8_0), ((c : Thread nD τ).loc cc2_stg8_0) ↦{fullShare} f) ∗ (∃ f : Buf Val ((c : Thread nD τ).loc cc2_stg8_1), ((c : Thread nD τ).loc cc2_stg8_1) ↦{fullShare} f) ∗ (∃ f : Buf Val ((c : Thread nD τ).loc cc2_scratch0), ((c : Thread nD τ).loc cc2_scratch0) ↦{fullShare} f) ∗ (∃ f : Buf Val ((c : Thread nD τ).loc cc2_scratch1), ((c : Thread nD τ).loc cc2_scratch1) ↦{fullShare} f)) :=
  Pipeline.scopedRest_eq_of_list spec0 c [cc0_scratch0, cc1_stg0_0, cc1_stg0_1, cc1_stg1_0, cc1_stg1_1, cc1_stg2_0, cc1_stg3_0, cc1_stg4_0, cc1_stg4_1, cc1_scratch0, cc2_stg0_0, cc2_stg1_0, cc2_stg1_1, cc2_stg2_0, cc2_stg3_0, cc2_stg3_1, cc2_stg4_0, cc2_stg4_1, cc2_stg5_0, cc2_stg5_1, cc2_stg6_0, cc2_stg7_0, cc2_stg7_1, cc2_stg8_0, cc2_stg8_1, cc2_scratch0, cc2_scratch1] (by decide) (by decide)

/-- The core's scoped buffers that are no staging buffer of custom_call 1, each whole at some contents:
    `cc0_stg0_0`, `cc0_stg0_1`, `cc0_stg1_0`, `cc0_stg1_1`, `cc0_stg2_0`, `cc0_stg2_1`, `cc0_stg3_0`, `cc0_scratch0`, `cc1_scratch0`, `cc2_stg0_0`, `cc2_stg1_0`, `cc2_stg1_1`, `cc2_stg2_0`, `cc2_stg3_0`, `cc2_stg3_1`, `cc2_stg4_0`, `cc2_stg4_1`, `cc2_stg5_0`, `cc2_stg5_1`, `cc2_stg6_0`, `cc2_stg7_0`, `cc2_stg7_1`, `cc2_stg8_0`, `cc2_stg8_1`, `cc2_scratch0`, `cc2_scratch1`. -/
theorem scopedRest1_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = iprop((∃ f : Buf Val ((c : Thread nD τ).loc cc0_stg0_0), ((c : Thread nD τ).loc cc0_stg0_0) ↦{fullShare} f) ∗ (∃ f : Buf Val ((c : Thread nD τ).loc cc0_stg0_1), ((c : Thread nD τ).loc cc0_stg0_1) ↦{fullShare} f) ∗ (∃ f : Buf Val ((c : Thread nD τ).loc cc0_stg1_0), ((c : Thread nD τ).loc cc0_stg1_0) ↦{fullShare} f) ∗ (∃ f : Buf Val ((c : Thread nD τ).loc cc0_stg1_1), ((c : Thread nD τ).loc cc0_stg1_1) ↦{fullShare} f) ∗ (∃ f : Buf Val ((c : Thread nD τ).loc cc0_stg2_0), ((c : Thread nD τ).loc cc0_stg2_0) ↦{fullShare} f) ∗ (∃ f : Buf Val ((c : Thread nD τ).loc cc0_stg2_1), ((c : Thread nD τ).loc cc0_stg2_1) ↦{fullShare} f) ∗ (∃ f : Buf Val ((c : Thread nD τ).loc cc0_stg3_0), ((c : Thread nD τ).loc cc0_stg3_0) ↦{fullShare} f) ∗ (∃ f : Buf Val ((c : Thread nD τ).loc cc0_scratch0), ((c : Thread nD τ).loc cc0_scratch0) ↦{fullShare} f) ∗ (∃ f : Buf Val ((c : Thread nD τ).loc cc1_scratch0), ((c : Thread nD τ).loc cc1_scratch0) ↦{fullShare} f) ∗ (∃ f : Buf Val ((c : Thread nD τ).loc cc2_stg0_0), ((c : Thread nD τ).loc cc2_stg0_0) ↦{fullShare} f) ∗ (∃ f : Buf Val ((c : Thread nD τ).loc cc2_stg1_0), ((c : Thread nD τ).loc cc2_stg1_0) ↦{fullShare} f) ∗ (∃ f : Buf Val ((c : Thread nD τ).loc cc2_stg1_1), ((c : Thread nD τ).loc cc2_stg1_1) ↦{fullShare} f) ∗ (∃ f : Buf Val ((c : Thread nD τ).loc cc2_stg2_0), ((c : Thread nD τ).loc cc2_stg2_0) ↦{fullShare} f) ∗ (∃ f : Buf Val ((c : Thread nD τ).loc cc2_stg3_0), ((c : Thread nD τ).loc cc2_stg3_0) ↦{fullShare} f) ∗ (∃ f : Buf Val ((c : Thread nD τ).loc cc2_stg3_1), ((c : Thread nD τ).loc cc2_stg3_1) ↦{fullShare} f) ∗ (∃ f : Buf Val ((c : Thread nD τ).loc cc2_stg4_0), ((c : Thread nD τ).loc cc2_stg4_0) ↦{fullShare} f) ∗ (∃ f : Buf Val ((c : Thread nD τ).loc cc2_stg4_1), ((c : Thread nD τ).loc cc2_stg4_1) ↦{fullShare} f) ∗ (∃ f : Buf Val ((c : Thread nD τ).loc cc2_stg5_0), ((c : Thread nD τ).loc cc2_stg5_0) ↦{fullShare} f) ∗ (∃ f : Buf Val ((c : Thread nD τ).loc cc2_stg5_1), ((c : Thread nD τ).loc cc2_stg5_1) ↦{fullShare} f) ∗ (∃ f : Buf Val ((c : Thread nD τ).loc cc2_stg6_0), ((c : Thread nD τ).loc cc2_stg6_0) ↦{fullShare} f) ∗ (∃ f : Buf Val ((c : Thread nD τ).loc cc2_stg7_0), ((c : Thread nD τ).loc cc2_stg7_0) ↦{fullShare} f) ∗ (∃ f : Buf Val ((c : Thread nD τ).loc cc2_stg7_1), ((c : Thread nD τ).loc cc2_stg7_1) ↦{fullShare} f) ∗ (∃ f : Buf Val ((c : Thread nD τ).loc cc2_stg8_0), ((c : Thread nD τ).loc cc2_stg8_0) ↦{fullShare} f) ∗ (∃ f : Buf Val ((c : Thread nD τ).loc cc2_stg8_1), ((c : Thread nD τ).loc cc2_stg8_1) ↦{fullShare} f) ∗ (∃ f : Buf Val ((c : Thread nD τ).loc cc2_scratch0), ((c : Thread nD τ).loc cc2_scratch0) ↦{fullShare} f) ∗ (∃ f : Buf Val ((c : Thread nD τ).loc cc2_scratch1), ((c : Thread nD τ).loc cc2_scratch1) ↦{fullShare} f)) :=
  Pipeline.scopedRest_eq_of_list spec1 c [cc0_stg0_0, cc0_stg0_1, cc0_stg1_0, cc0_stg1_1, cc0_stg2_0, cc0_stg2_1, cc0_stg3_0, cc0_scratch0, cc1_scratch0, cc2_stg0_0, cc2_stg1_0, cc2_stg1_1, cc2_stg2_0, cc2_stg3_0, cc2_stg3_1, cc2_stg4_0, cc2_stg4_1, cc2_stg5_0, cc2_stg5_1, cc2_stg6_0, cc2_stg7_0, cc2_stg7_1, cc2_stg8_0, cc2_stg8_1, cc2_scratch0, cc2_scratch1] (by decide) (by decide)

end Cert.KernelIdeal.Own

end
-- ==== Proof.Ideal.Region0.lean ====
/- The first call (xa): its windows, its runs by case, the contents each grid point leaves, and the body's obligation. -/
module

public import proofs.«01_k».proof.Proof.Ideal.Rest
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_xa` (pipeline 0), at the entry contents `V` -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 8 = 7 :=
  (fun t => by
    have ht : t.val < 8 := Nat.lt_of_lt_of_eq t.isLt N_0
    have e0 : (grid0.coords t 0).val = t.val / 1 % 8 := Pipeline.Grid.coords_val t 0 (by decide) rfl
    simp only [cond0_1, k0_cond2, e0]
    word_cmp
   : ∀ t : Fin grid0.N, cond0_1 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- At the points of case A the printed configuration (`Cfg.idle`) calls output 3 idle: the case stores nothing into it. -/
theorem idleAt0_3_A : ∀ t : Fin cfg0.N, cond0_0 (grid0.coords t) → ¬cond0_1 (grid0.coords t) → cfg0.idle 3 (grid0.coords t) = true := by decide +kernel
/-- At the points of case A the pipeline does not write output 3's block back. -/
theorem noFlush0_3_A : ∀ t : Fin cfg0.N, cond0_0 (grid0.coords t) → ¬cond0_1 (grid0.coords t) → (cfg0.win 3).flush t = false := by decide +kernel
/-- At the points of case B the printed configuration (`Cfg.idle`) calls output 3 idle: the case stores nothing into it. -/
theorem idleAt0_3_B : ∀ t : Fin cfg0.N, ¬cond0_0 (grid0.coords t) → ¬cond0_1 (grid0.coords t) → cfg0.idle 3 (grid0.coords t) = true := by decide +kernel
/-- At the points of case B the pipeline does not write output 3's block back. -/
theorem noFlush0_3_B : ∀ t : Fin cfg0.N, ¬cond0_0 (grid0.coords t) → ¬cond0_1 (grid0.coords t) → (cfg0.win 3).flush t = false := by decide +kernel
/-- At the points of case C the printed configuration (`Cfg.idle`) calls output 3 live: the case stores into it. -/
theorem liveAt0_3_C : ∀ t : Fin cfg0.N, ¬cond0_0 (grid0.coords t) → cond0_1 (grid0.coords t) → cfg0.idle 3 (grid0.coords t) = false := by decide +kernel

/-! ## The kernel body on any staging memrefs: a subtype the run finds -/

/-- One staging buffer of output window 3, through which its contents are stated (`View.read_writes_of_cover`: the
    choice does not matter). -/
abbrev VO0_3 : View sig .tc .vmem S1024x64 .bf16 := (Memref.whole cc0_stg3_0 : Memref sig .tc .vmem S1024x64 .bf16).view
/-- Each window's current staging memref at point `t`, spelled as the pipeline passes it (`bodyAt0`), and its wholeness. -/
abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x64 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x64 .bf16 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S1024x64 .f32 := Memref.whole cc0_scratch0
/-- The scratch `arg5` the kernel carries between points, as a view: what it holds is stated through it. -/
abbrev VS0_0 : View sig .tc .vmem S1024x64 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc2_stg7_1), ((c : Thread nD τ).loc cc2_stg7_1) ↦{fullShare} f) ∗ (∃ f : Buf (Elt F) ((c : Thread nD τ).loc cc2_stg8_0), ((c : Thread nD τ).loc cc2_stg8_0) ↦{fullShare} f) ∗ (∃ f : Buf (Elt F) ((c : Thread nD τ).loc cc2_stg8_1), ((c : Thread nD τ).loc cc2_stg8_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f)) ∗ (∃ r, prngReg c r)) := by
  unfold Pipeline.ΦA; rw [scopedRest0_eq]; simp only [scM0_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (3: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1024x512 .bf16) (harg1 : arg1.IsWhole) (arg2 : Memref sig .tc .vmem S1024x512 .i8) (harg2 : arg2.IsWhole) (arg3 : Memref sig .tc .vmem S512x64 .bf16) (harg3 : arg3.IsWhole) (arg4 : Memref sig .tc .vmem S1024x64 .bf16) (harg4 : arg4.IsWhole) (arg5 : Memref sig .tc .vmem S1024x64 .f32) (harg5 : arg5.IsWhole) (hc0 : cond0_0 i) (hc1 : ¬cond0_1 i)
    (x0 : Vec F S1024x512 .bf16) (x1 : Vec F S1024x512 .i8) (x2 : Vec F S512x64 .bf16) :
    Σ' (L3 : List (View.Piece (Elt F) S1024x64 .bf16)), { LS0 : List (View.Piece (Elt F) S1024x64 .f32) //
      ∀ (xi3 : Vec F S1024x64 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0_xa i arg1 harg1 arg2 harg2 arg3 harg3 arg4 harg4 arg5 harg5) K } := by
  refine ⟨[], ?_, fun xi3 E K => ?run⟩
  case run =>
    simp only [cc0_xa_eq_skeleton]; unfold cc0_xa_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

/-- Case A stores nothing into output 3 (the window is idle at its points and not written back there):
    no pieces — a placeholder (junk read back) that nothing consults, since at these points the window is neither
    written back nor read at the next point (Lib/Pipeline.lean "Idle points"). -/
def out0_A_3 (c : Dev nD) (i : grid0.Coords) (arg1 : Memref sig .tc .vmem S1024x512 .bf16) (harg1 : arg1.IsWhole) (arg2 : Memref sig .tc .vmem S1024x512 .i8) (harg2 : arg2.IsWhole) (arg3 : Memref sig .tc .vmem S512x64 .bf16) (harg3 : arg3.IsWhole) (arg4 : Memref sig .tc .vmem S1024x64 .bf16) (harg4 : arg4.IsWhole) (arg5 : Memref sig .tc .vmem S1024x64 .f32) (harg5 : arg5.IsWhole) (hc0 : cond0_0 i) (hc1 : ¬cond0_1 i)
    (x0 : Vec F S1024x512 .bf16) (x1 : Vec F S1024x512 .i8) (x2 : Vec F S512x64 .bf16) : Vec F S1024x64 .bf16 :=
  VO0_3.read (Elt F) (VO0_3.writes (Elt F) VO0_3.junk (kernelRun0_A c i arg1 harg1 arg2 harg2 arg3 harg3 arg4 harg4 arg5 harg5 hc0 hc1 x0 x1 x2).1)

/-- Case A's pieces for scratch `arg5`, which the kernel carries between points, cover it: 2 pieces of `S1024x64` tiling it (Lib/Ring.lean `Piece.tiledL`). -/
theorem scover0_A_0 (c : Dev nD) (i : grid0.Coords) (arg1 : Memref sig .tc .vmem S1024x512 .bf16) (harg1 : arg1.IsWhole) (arg2 : Memref sig .tc .vmem S1024x512 .i8) (harg2 : arg2.IsWhole) (arg3 : Memref sig .tc .vmem S512x64 .bf16) (harg3 : arg3.IsWhole) (arg4 : Memref sig .tc .vmem S1024x64 .bf16) (harg4 : arg4.IsWhole) (arg5 : Memref sig .tc .vmem S1024x64 .f32) (harg5 : arg5.IsWhole) (hc0 : cond0_0 i) (hc1 : ¬cond0_1 i)
    (x0 : Vec F S1024x512 .bf16) (x1 : Vec F S1024x512 .i8) (x2 : Vec F S512x64 .bf16) (y : S1024x64.Idx) :
    ∃ pc ∈ (kernelRun0_A c i arg1 harg1 arg2 harg2 arg3 harg3 arg4 harg4 arg5 harg5 hc0 hc1 x0 x1 x2).2.1, y ∈ pc.1.set :=
  View.cover_of_tiledL (kernelRun0_A c i arg1 harg1 arg2 harg2 arg3 harg3 arg4 harg4 arg5 harg5 hc0 hc1 x0 x1 x2).2.1 S1024x64.size (by sl_kernel_rfl) y

/-- What case A leaves in scratch `arg5`: its pieces read back over junk. -/
def sout0_A_0 (c : Dev nD) (i : grid0.Coords) (arg1 : Memref sig .tc .vmem S1024x512 .bf16) (harg1 : arg1.IsWhole) (arg2 : Memref sig .tc .vmem S1024x512 .i8) (harg2 : arg2.IsWhole) (arg3 : Memref sig .tc .vmem S512x64 .bf16) (harg3 : arg3.IsWhole) (arg4 : Memref sig .tc .vmem S1024x64 .bf16) (harg4 : arg4.IsWhole) (arg5 : Memref sig .tc .vmem S1024x64 .f32) (harg5 : arg5.IsWhole) (hc0 : cond0_0 i) (hc1 : ¬cond0_1 i)
    (x0 : Vec F S1024x512 .bf16) (x1 : Vec F S1024x512 .i8) (x2 : Vec F S512x64 .bf16) : Vec F S1024x64 .f32 :=
  VS0_0.read (Elt F) (VS0_0.writes (Elt F) VS0_0.junk (kernelRun0_A c i arg1 harg1 arg2 harg2 arg3 harg3 arg4 harg4 arg5 harg5 hc0 hc1 x0 x1 x2).2.1)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, 3, 4, 5, 6), WITH the
    proof that on whole staging memrefs — the inputs' at their contents, the outputs it leaves idle (3: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1024x512 .bf16) (harg1 : arg1.IsWhole) (arg2 : Memref sig .tc .vmem S1024x512 .i8) (harg2 : arg2.IsWhole) (arg3 : Memref sig .tc .vmem S512x64 .bf16) (harg3 : arg3.IsWhole) (arg4 : Memref sig .tc .vmem S1024x64 .bf16) (harg4 : arg4.IsWhole) (arg5 : Memref sig .tc .vmem S1024x64 .f32) (harg5 : arg5.IsWhole) (hc0 : ¬cond0_0 i) (hc1 : ¬cond0_1 i)
    (x0 : Vec F S1024x512 .bf16) (x1 : Vec F S1024x512 .i8) (x2 : Vec F S512x64 .bf16) (xs0 : Vec F S1024x64 .f32) :
    Σ' (L3 : List (View.Piece (Elt F) S1024x64 .bf16)), { LS0 : List (View.Piece (Elt F) S1024x64 .f32) //
      ∀ (xi3 : Vec F S1024x64 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0_xa i arg1 harg1 arg2 harg2 arg3 harg3 arg4 harg4 arg5 harg5) K } := by
  refine ⟨[], ?_, fun xi3 E K => ?run⟩
  case run =>
    simp only [cc0_xa_eq_skeleton]; unfold cc0_xa_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

/-- Case B stores nothing into output 3 (the window is idle at its points and not written back there):
    no pieces — a placeholder (junk read back) that nothing consults, since at these points the window is neither
    written back nor read at the next point (Lib/Pipeline.lean "Idle points"). -/
def out0_B_3 (c : Dev nD) (i : grid0.Coords) (arg1 : Memref sig .tc .vmem S1024x512 .bf16) (harg1 : arg1.IsWhole) (arg2 : Memref sig .tc .vmem S1024x512 .i8) (harg2 : arg2.IsWhole) (arg3 : Memref sig .tc .vmem S512x64 .bf16) (harg3 : arg3.IsWhole) (arg4 : Memref sig .tc .vmem S1024x64 .bf16) (harg4 : arg4.IsWhole) (arg5 : Memref sig .tc .vmem S1024x64 .f32) (harg5 : arg5.IsWhole) (hc0 : ¬cond0_0 i) (hc1 : ¬cond0_1 i)
    (x0 : Vec F S1024x512 .bf16) (x1 : Vec F S1024x512 .i8) (x2 : Vec F S512x64 .bf16) (xs0 : Vec F S1024x64 .f32) : Vec F S1024x64 .bf16 :=
  VO0_3.read (Elt F) (VO0_3.writes (Elt F) VO0_3.junk (kernelRun0_B c i arg1 harg1 arg2 harg2 arg3 harg3 arg4 harg4 arg5 harg5 hc0 hc1 x0 x1 x2 xs0).1)

/-- Case B's pieces for scratch `arg5`, which the kernel carries between points, cover it: 1 piece of `S1024x64` tiling it (Lib/Ring.lean `Piece.tiledL`). -/
theorem scover0_B_0 (c : Dev nD) (i : grid0.Coords) (arg1 : Memref sig .tc .vmem S1024x512 .bf16) (harg1 : arg1.IsWhole) (arg2 : Memref sig .tc .vmem S1024x512 .i8) (harg2 : arg2.IsWhole) (arg3 : Memref sig .tc .vmem S512x64 .bf16) (harg3 : arg3.IsWhole) (arg4 : Memref sig .tc .vmem S1024x64 .bf16) (harg4 : arg4.IsWhole) (arg5 : Memref sig .tc .vmem S1024x64 .f32) (harg5 : arg5.IsWhole) (hc0 : ¬cond0_0 i) (hc1 : ¬cond0_1 i)
    (x0 : Vec F S1024x512 .bf16) (x1 : Vec F S1024x512 .i8) (x2 : Vec F S512x64 .bf16) (xs0 : Vec F S1024x64 .f32) (y : S1024x64.Idx) :
    ∃ pc ∈ (kernelRun0_B c i arg1 harg1 arg2 harg2 arg3 harg3 arg4 harg4 arg5 harg5 hc0 hc1 x0 x1 x2 xs0).2.1, y ∈ pc.1.set :=
  View.cover_of_tiledL (kernelRun0_B c i arg1 harg1 arg2 harg2 arg3 harg3 arg4 harg4 arg5 harg5 hc0 hc1 x0 x1 x2 xs0).2.1 S1024x64.size (by sl_kernel_rfl) y

/-- What case B leaves in scratch `arg5`: its pieces read back over junk. -/
def sout0_B_0 (c : Dev nD) (i : grid0.Coords) (arg1 : Memref sig .tc .vmem S1024x512 .bf16) (harg1 : arg1.IsWhole) (arg2 : Memref sig .tc .vmem S1024x512 .i8) (harg2 : arg2.IsWhole) (arg3 : Memref sig .tc .vmem S512x64 .bf16) (harg3 : arg3.IsWhole) (arg4 : Memref sig .tc .vmem S1024x64 .bf16) (harg4 : arg4.IsWhole) (arg5 : Memref sig .tc .vmem S1024x64 .f32) (harg5 : arg5.IsWhole) (hc0 : ¬cond0_0 i) (hc1 : ¬cond0_1 i)
    (x0 : Vec F S1024x512 .bf16) (x1 : Vec F S1024x512 .i8) (x2 : Vec F S512x64 .bf16) (xs0 : Vec F S1024x64 .f32) : Vec F S1024x64 .f32 :=
  VS0_0.read (Elt F) (VS0_0.writes (Elt F) VS0_0.junk (kernelRun0_B c i arg1 harg1 arg2 harg2 arg3 harg3 arg4 harg4 arg5 harg5 hc0 hc1 x0 x1 x2 xs0).2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 7), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S1024x512 .bf16) (harg1 : arg1.IsWhole) (arg2 : Memref sig .tc .vmem S1024x512 .i8) (harg2 : arg2.IsWhole) (arg3 : Memref sig .tc .vmem S512x64 .bf16) (harg3 : arg3.IsWhole) (arg4 : Memref sig .tc .vmem S1024x64 .bf16) (harg4 : arg4.IsWhole) (arg5 : Memref sig .tc .vmem S1024x64 .f32) (harg5 : arg5.IsWhole) (hc0 : ¬cond0_0 i) (hc1 : cond0_1 i)
    (x0 : Vec F S1024x512 .bf16) (x1 : Vec F S1024x512 .i8) (x2 : Vec F S512x64 .bf16) (xs0 : Vec F S1024x64 .f32) :
    Σ' (L3 : List (View.Piece (Elt F) S1024x64 .bf16)), { LS0 : List (View.Piece (Elt F) S1024x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc0_xa i arg1 harg1 arg2 harg2 arg3 harg3 arg4 harg4 arg5 harg5) K } := by
  refine ⟨?_, ?_, fun E K => ?run⟩
  case run =>
    simp only [cc0_xa_eq_skeleton]; unfold cc0_xa_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

/-- Case C's pieces for output 3 tile its block (1 store of `S1024x64`, checked by the kernel's evaluation: Lib/Ring.lean `Piece.tiledL`, linear in the pieces, through a loop's `@[irreducible]` trip theorem too), so they cover it. -/
theorem cover0_C_3 (c : Dev nD) (i : grid0.Coords) (arg1 : Memref sig .tc .vmem S1024x512 .bf16) (harg1 : arg1.IsWhole) (arg2 : Memref sig .tc .vmem S1024x512 .i8) (harg2 : arg2.IsWhole) (arg3 : Memref sig .tc .vmem S512x64 .bf16) (harg3 : arg3.IsWhole) (arg4 : Memref sig .tc .vmem S1024x64 .bf16) (harg4 : arg4.IsWhole) (arg5 : Memref sig .tc .vmem S1024x64 .f32) (harg5 : arg5.IsWhole) (hc0 : ¬cond0_0 i) (hc1 : cond0_1 i)
    (x0 : Vec F S1024x512 .bf16) (x1 : Vec F S1024x512 .i8) (x2 : Vec F S512x64 .bf16) (xs0 : Vec F S1024x64 .f32) (y : S1024x64.Idx) :
    ∃ pc ∈ (kernelRun0_C c i arg1 harg1 arg2 harg2 arg3 harg3 arg4 harg4 arg5 harg5 hc0 hc1 x0 x1 x2 xs0).1, y ∈ pc.1.set :=
  View.cover_of_tiledL (kernelRun0_C c i arg1 harg1 arg2 harg2 arg3 harg3 arg4 harg4 arg5 harg5 hc0 hc1 x0 x1 x2 xs0).1 S1024x64.size (by sl_kernel_rfl) y

/-- What case C leaves in output 3's staging buffer: its pieces read back over junk. -/
def out0_C_3 (c : Dev nD) (i : grid0.Coords) (arg1 : Memref sig .tc .vmem S1024x512 .bf16) (harg1 : arg1.IsWhole) (arg2 : Memref sig .tc .vmem S1024x512 .i8) (harg2 : arg2.IsWhole) (arg3 : Memref sig .tc .vmem S512x64 .bf16) (harg3 : arg3.IsWhole) (arg4 : Memref sig .tc .vmem S1024x64 .bf16) (harg4 : arg4.IsWhole) (arg5 : Memref sig .tc .vmem S1024x64 .f32) (harg5 : arg5.IsWhole) (hc0 : ¬cond0_0 i) (hc1 : cond0_1 i)
    (x0 : Vec F S1024x512 .bf16) (x1 : Vec F S1024x512 .i8) (x2 : Vec F S512x64 .bf16) (xs0 : Vec F S1024x64 .f32) : Vec F S1024x64 .bf16 :=
  VO0_3.read (Elt F) (VO0_3.writes (Elt F) VO0_3.junk (kernelRun0_C c i arg1 harg1 arg2 harg2 arg3 harg3 arg4 harg4 arg5 harg5 hc0 hc1 x0 x1 x2 xs0).1)

/-- Case C's pieces for scratch `arg5`, which the kernel carries between points, cover it: 1 piece of `S1024x64` tiling it (Lib/Ring.lean `Piece.tiledL`). -/
theorem scover0_C_0 (c : Dev nD) (i : grid0.Coords) (arg1 : Memref sig .tc .vmem S1024x512 .bf16) (harg1 : arg1.IsWhole) (arg2 : Memref sig .tc .vmem S1024x512 .i8) (harg2 : arg2.IsWhole) (arg3 : Memref sig .tc .vmem S512x64 .bf16) (harg3 : arg3.IsWhole) (arg4 : Memref sig .tc .vmem S1024x64 .bf16) (harg4 : arg4.IsWhole) (arg5 : Memref sig .tc .vmem S1024x64 .f32) (harg5 : arg5.IsWhole) (hc0 : ¬cond0_0 i) (hc1 : cond0_1 i)
    (x0 : Vec F S1024x512 .bf16) (x1 : Vec F S1024x512 .i8) (x2 : Vec F S512x64 .bf16) (xs0 : Vec F S1024x64 .f32) (y : S1024x64.Idx) :
    ∃ pc ∈ (kernelRun0_C c i arg1 harg1 arg2 harg2 arg3 harg3 arg4 harg4 arg5 harg5 hc0 hc1 x0 x1 x2 xs0).2.1, y ∈ pc.1.set :=
  View.cover_of_tiledL (kernelRun0_C c i arg1 harg1 arg2 harg2 arg3 harg3 arg4 harg4 arg5 harg5 hc0 hc1 x0 x1 x2 xs0).2.1 S1024x64.size (by sl_kernel_rfl) y

/-- What case C leaves in scratch `arg5`: its pieces read back over junk. -/
def sout0_C_0 (c : Dev nD) (i : grid0.Coords) (arg1 : Memref sig .tc .vmem S1024x512 .bf16) (harg1 : arg1.IsWhole) (arg2 : Memref sig .tc .vmem S1024x512 .i8) (harg2 : arg2.IsWhole) (arg3 : Memref sig .tc .vmem S512x64 .bf16) (harg3 : arg3.IsWhole) (arg4 : Memref sig .tc .vmem S1024x64 .bf16) (harg4 : arg4.IsWhole) (arg5 : Memref sig .tc .vmem S1024x64 .f32) (harg5 : arg5.IsWhole) (hc0 : ¬cond0_0 i) (hc1 : cond0_1 i)
    (x0 : Vec F S1024x512 .bf16) (x1 : Vec F S1024x512 .i8) (x2 : Vec F S512x64 .bf16) (xs0 : Vec F S1024x64 .f32) : Vec F S1024x64 .f32 :=
  VS0_0.read (Elt F) (VS0_0.writes (Elt F) VS0_0.junk (kernelRun0_C c i arg1 harg1 arg2 harg2 arg3 harg3 arg4 harg4 arg5 harg5 hc0 hc1 x0 x1 x2 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024x64 .bf16 × Vec F S1024x64 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 8 = 0 then
      if h1 : (n + 1) % 8 = 7 then
        False.elim (by have hN : n + 1 < 8 := lt_of_lt_of_eq hn (show cfg0.N = 8 from N_0); omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- `outsAt0` at a point of case A: that case's contents. -/
theorem outsAt0_A (c : Dev nD) (t : Fin cfg0.N) (h0 : t.val % 8 = 0) (h1 : ¬t.val % 8 = 7) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 8 = 0) (h1 : ¬t.val % 8 = 7) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 8 = 0) (h1 : t.val % 8 = 7) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc2_stg7_1), ((c : Thread nD τ).loc cc2_stg7_1) ↦{fullShare} f) ∗ (∃ f : Buf (Elt F) ((c : Thread nD τ).loc cc2_stg8_0), ((c : Thread nD τ).loc cc2_stg8_0) ↦{fullShare} f) ∗ (∃ f : Buf (Elt F) ((c : Thread nD τ).loc cc2_stg8_1), ((c : Thread nD τ).loc cc2_stg8_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f)) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the carried scratch at that point's contents. -/
theorem PhiS0_succ (c : Dev nD) (n : ℕ) (hn : n < cfg0.N) :
    PhiS0 V c (n + 1) hn = iprop(iprop(owns (c : Thread nD τ) scM0_0 fullShare ((outsAt0 V c n hn).2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc2_stg7_1), ((c : Thread nD τ).loc cc2_stg7_1) ↦{fullShare} f) ∗ (∃ f : Buf (Elt F) ((c : Thread nD τ).loc cc2_stg8_0), ((c : Thread nD τ).loc cc2_stg8_0) ↦{fullShare} f) ∗ (∃ f : Buf (Elt F) ((c : Thread nD τ).loc cc2_stg8_1), ((c : Thread nD τ).loc cc2_stg8_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f)) ∗ (∃ r, prngReg c r)) := rfl

/-- Before a point that is not the first: the carried scratch at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc2_stg7_1), ((c : Thread nD τ).loc cc2_stg7_1) ↦{fullShare} f) ∗ (∃ f : Buf (Elt F) ((c : Thread nD τ).loc cc2_stg8_0), ((c : Thread nD τ).loc cc2_stg8_0) ↦{fullShare} f) ∗ (∃ f : Buf (Elt F) ((c : Thread nD τ).loc cc2_stg8_1), ((c : Thread nD τ).loc cc2_stg8_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f)) ∗ (∃ r, prngReg c r)) := by
  cases n with
  | zero => exact absurd rfl hz
  | succ n => rfl

/-! ## The pipeline's proof data -/

/-- The proof data of pipeline 0 on core `c`: the arrays as the region finds them (`V`); after the body at
    point `t` each input's buffer at its block and the outputs' at `outsAt0`; the invariant the class's
    (`PhiS0`: the class's `ΦA` before the first point, then the scoped rest with the carried scratch at `outsAt0`'s component);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS0_castSucc (c : Dev nD) (t : Fin cfg0.N) :
    (dat0 V c).Φ t.castSucc = PhiS0 V c t.val (Nat.le_of_lt t.isLt) := by
  dsimp only [dat0]; exact Pipeline.Dat.Φ_castSucc (PhiS0 V c) t

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS0_pos`; at anything at the first point, `PhiS0_zero`), the other scratch buffers and the generator register at some state, and takes the carried scratch back at this point's contents (`PhiS0_succ`, by `scoverK_κ_N`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 8 := lt_of_lt_of_eq t.isLt (show cfg0.N = 8 from N_0)
  by_cases h0 : t.val % 8 = 0
  · by_cases h1 : t.val % 8 = 7
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      by_cases hz : t.val = 0
      · rw [PhiS0_castSucc V c t, PhiS0_zero V c _ _ hz, PhiA0_eq]
        rw [outsAt0_A V c t h0 h1]
        unfold sout0_A_0; (try dsimp only)
        iintro ⟨⟨⟨HS0, HR1, HR2, HR3, HR4, HR5, HR6, HR7, HR8, HR9, HR10, HR11, HR12, HR13, HR14, HR15, HR16, HR17, HR18, HR19, HR20, HR21, HR22, HR23, HR24, HR25, HR26⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR1 HR2 HR3 HR4 HR5 HR6 HR7 HR8 HR9 HR10 HR11 HR12 HR13 HR14 HR15 HR16 HR17 HR18 HR19 HR20 HR21 HR22 HR23 HR24 HR25 HR26 Hg]
        · isplitl [HS0 HR1 HR2 HR3 HR4 HR5 HR6 HR7 HR8 HR9 HR10 HR11 HR12 HR13 HR14 HR15 HR16 HR17 HR18 HR19 HR20 HR21 HR22 HR23 HR24 HR25 HR26]
          · isplitl [HS0]
            · unfold owns; iexists _; isplitr
              swap; · iexact HS0
              ipureintro; exact View.read_writes_of_cover _ _ _ _ _ (scover0_A_0 c _ _ _ _ _ _ _ _ _ _ _ _ _ _ _ _)
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            isplitl [HR16]
            · iexact HR16
            isplitl [HR17]
            · iexact HR17
            isplitl [HR18]
            · iexact HR18
            isplitl [HR19]
            · iexact HR19
            isplitl [HR20]
            · iexact HR20
            isplitl [HR21]
            · iexact HR21
            isplitl [HR22]
            · iexact HR22
            isplitl [HR23]
            · iexact HR23
            isplitl [HR24]
            · iexact HR24
            isplitl [HR25]
            · iexact HR25
            iexact HR26
          iexact Hg
        isplitl [Ho]; · iexact Ho
        isplitl [H0]; · iexact H0
        isplitl [H1]; · iexact H1
        isplitl [H2]; · iexact H2
        iexists _; iexact H3
      · exfalso; have hN : t.val < 8 := lt_of_lt_of_eq t.isLt (show cfg0.N = 8 from N_0); omega
  · by_cases h1 : t.val % 8 = 7
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3_C t (fun h => h0 ((hcond0_0 t).mp h)) ((hcond0_1 t).mpr h1)], after0_3]
      by_cases hz : t.val = 0
      · exfalso; have hN : t.val < 8 := lt_of_lt_of_eq t.isLt (show cfg0.N = 8 from N_0); omega
      · rw [PhiS0_castSucc V c t, PhiS0_pos V c _ _ hz]
        rw [outsAt0_C V c t h0 h1]
        unfold out0_C_3 sout0_C_0; (try dsimp only)
        iintro ⟨⟨⟨HS0, HR1, HR2, HR3, HR4, HR5, HR6, HR7, HR8, HR9, HR10, HR11, HR12, HR13, HR14, HR15, HR16, HR17, HR18, HR19, HR20, HR21, HR22, HR23, HR24, HR25, HR26⟩, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR1 HR2 HR3 HR4 HR5 HR6 HR7 HR8 HR9 HR10 HR11 HR12 HR13 HR14 HR15 HR16 HR17 HR18 HR19 HR20 HR21 HR22 HR23 HR24 HR25 HR26 Hg]
        · isplitl [HS0 HR1 HR2 HR3 HR4 HR5 HR6 HR7 HR8 HR9 HR10 HR11 HR12 HR13 HR14 HR15 HR16 HR17 HR18 HR19 HR20 HR21 HR22 HR23 HR24 HR25 HR26]
          · isplitl [HS0]
            · unfold owns; iexists _; isplitr
              swap; · iexact HS0
              ipureintro; exact View.read_writes_of_cover _ _ _ _ _ (scover0_C_0 c _ _ _ _ _ _ _ _ _ _ _ _ _ _ _ _ _)
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            isplitl [HR16]
            · iexact HR16
            isplitl [HR17]
            · iexact HR17
            isplitl [HR18]
            · iexact HR18
            isplitl [HR19]
            · iexact HR19
            isplitl [HR20]
            · iexact HR20
            isplitl [HR21]
            · iexact HR21
            isplitl [HR22]
            · iexact HR22
            isplitl [HR23]
            · iexact HR23
            isplitl [HR24]
            · iexact HR24
            isplitl [HR25]
            · iexact HR25
            iexact HR26
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _)
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      by_cases hz : t.val = 0
      · exfalso; have hN : t.val < 8 := lt_of_lt_of_eq t.isLt (show cfg0.N = 8 from N_0); omega
      · rw [PhiS0_castSucc V c t, PhiS0_pos V c _ _ hz]
        rw [outsAt0_B V c t h0 h1]
        unfold sout0_B_0; (try dsimp only)
        iintro ⟨⟨⟨HS0, HR1, HR2, HR3, HR4, HR5, HR6, HR7, HR8, HR9, HR10, HR11, HR12, HR13, HR14, HR15, HR16, HR17, HR18, HR19, HR20, HR21, HR22, HR23, HR24, HR25, HR26⟩, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR1 HR2 HR3 HR4 HR5 HR6 HR7 HR8 HR9 HR10 HR11 HR12 HR13 HR14 HR15 HR16 HR17 HR18 HR19 HR20 HR21 HR22 HR23 HR24 HR25 HR26 Hg]
        · isplitl [HS0 HR1 HR2 HR3 HR4 HR5 HR6 HR7 HR8 HR9 HR10 HR11 HR12 HR13 HR14 HR15 HR16 HR17 HR18 HR19 HR20 HR21 HR22 HR23 HR24 HR25 HR26]
          · isplitl [HS0]
            · unfold owns; iexists _; isplitr
              swap; · iexact HS0
              ipureintro; exact View.read_writes_of_cover _ _ _ _ _ (scover0_B_0 c _ _ _ _ _ _ _ _ _ _ _ _ _ _ _ _ _)
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            isplitl [HR16]
            · iexact HR16
            isplitl [HR17]
            · iexact HR17
            isplitl [HR18]
            · iexact HR18
            isplitl [HR19]
            · iexact HR19
            isplitl [HR20]
            · iexact HR20
            isplitl [HR21]
            · iexact HR21
            isplitl [HR22]
            · iexact HR22
            isplitl [HR23]
            · iexact HR23
            isplitl [HR24]
            · iexact HR24
            isplitl [HR25]
            · iexact HR25
            iexact HR26
          iexact Hg
        isplitl [Ho]; · iexact Ho
        isplitl [H0]; · iexact H0
        isplitl [H1]; · iexact H1
        isplitl [H2]; · iexact H2
        iexists _; iexact H3

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region (`ΦA`) is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives `ΦA` back: the carried scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR1, HR2, HR3, HR4, HR5, HR6, HR7, HR8, HR9, HR10, HR11, HR12, HR13, HR14, HR15, HR16, HR17, HR18, HR19, HR20, HR21, HR22, HR23, HR24, HR25, HR26⟩, Hg⟩
  isplitl [HS0 HR1 HR2 HR3 HR4 HR5 HR6 HR7 HR8 HR9 HR10 HR11 HR12 HR13 HR14 HR15 HR16 HR17 HR18 HR19 HR20 HR21 HR22 HR23 HR24 HR25 HR26]
  · isplitl [HS0]
    · iexists _; iexact HS0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    isplitl [HR11]
    · iexact HR11
    isplitl [HR12]
    · iexact HR12
    isplitl [HR13]
    · iexact HR13
    isplitl [HR14]
    · iexact HR14
    isplitl [HR15]
    · iexact HR15
    isplitl [HR16]
    · iexact HR16
    isplitl [HR17]
    · iexact HR17
    isplitl [HR18]
    · iexact HR18
    isplitl [HR19]
    · iexact HR19
    isplitl [HR20]
    · iexact HR20
    isplitl [HR21]
    · iexact HR21
    isplitl [HR22]
    · iexact HR22
    isplitl [HR23]
    · iexact HR23
    isplitl [HR24]
    · iexact HR24
    isplitl [HR25]
    · iexact HR25
    iexact HR26
  iexact Hg

/-- The same after the last point. -/
theorem hout0 (c : Dev nD) : (dat0 V c).Φ (Fin.last cfg0.N) ⊢ Pipeline.ΦA spec0 c :=
  Phi_out0 V c _ (by rw [Fin.val_last]; have : cfg0.N = 8 := N_0; omega)

end Regions

end Cert.KernelIdeal.Own

end
-- ==== Proof.Ideal.Region1.lean ====
/- The second call (g and db): its windows, its runs by case, the contents each grid point leaves, and the body's obligation. -/
module

public import proofs.«01_k».proof.Proof.Ideal.Rest
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_g_db` (pipeline 1), at the entry contents `V` -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 0).val) 0#32)) 0#32) = 1#1
/-- It holds at the first point only — by arithmetic of the point. -/
theorem hcond1_0 : ∀ t : Fin cfg1.N, cond1_0 (grid1.coords t) ↔ t.val % 43 = 0 :=
  (fun t => by
    have ht : t.val < 43 := Nat.lt_of_lt_of_eq t.isLt N_1
    have e0 : (grid1.coords t 0).val = t.val / 1 % 43 := Pipeline.Grid.coords_val t 0 (by decide) rfl
    simp only [cond1_0, e0]
    word_cmp
   : ∀ t : Fin grid1.N, cond1_0 (grid1.coords t) ↔ t.val % 43 = 0)

/-- The condition of the body's `scf.if` 1 (`k1_h2`), from the grid coordinates (the skeleton's scalar
    chain substituted). -/
abbrev cond1_1 (i : grid1.Coords) : Prop := k1_cond2 i = 1#1
/-- It holds at the last point only — by arithmetic of the point. -/
theorem hcond1_1 : ∀ t : Fin cfg1.N, cond1_1 (grid1.coords t) ↔ t.val % 43 = 42 :=
  (fun t => by
    have ht : t.val < 43 := Nat.lt_of_lt_of_eq t.isLt N_1
    have e0 : (grid1.coords t 0).val = t.val / 1 % 43 := Pipeline.Grid.coords_val t 0 (by decide) rfl
    simp only [cond1_1, k1_cond2, e0]
    word_cmp
   : ∀ t : Fin grid1.N, cond1_1 (grid1.coords t) ↔ t.val % 43 = 42)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 4 is never idle (an output stored at every point, under no condition). -/
theorem liveAt1_4 : ∀ t : Fin cfg1.N, cfg1.idle 4 (grid1.coords t) = false := fun _ => rfl
/-- At the points of case A the printed configuration (`Cfg.idle`) calls output 3 idle: the case stores nothing into it. -/
theorem idleAt1_3_A : ∀ t : Fin cfg1.N, cond1_0 (grid1.coords t) → ¬cond1_1 (grid1.coords t) → cfg1.idle 3 (grid1.coords t) = true := by decide +kernel
/-- At the points of case A the pipeline does not write output 3's block back. -/
theorem noFlush1_3_A : ∀ t : Fin cfg1.N, cond1_0 (grid1.coords t) → ¬cond1_1 (grid1.coords t) → (cfg1.win 3).flush t = false := by decide +kernel
/-- At the points of case B the printed configuration (`Cfg.idle`) calls output 3 idle: the case stores nothing into it. -/
theorem idleAt1_3_B : ∀ t : Fin cfg1.N, ¬cond1_0 (grid1.coords t) → ¬cond1_1 (grid1.coords t) → cfg1.idle 3 (grid1.coords t) = true := by decide +kernel
/-- At the points of case B the pipeline does not write output 3's block back. -/
theorem noFlush1_3_B : ∀ t : Fin cfg1.N, ¬cond1_0 (grid1.coords t) → ¬cond1_1 (grid1.coords t) → (cfg1.win 3).flush t = false := by decide +kernel
/-- At the points of case C the printed configuration (`Cfg.idle`) calls output 3 live: the case stores into it. -/
theorem liveAt1_3_C : ∀ t : Fin cfg1.N, ¬cond1_0 (grid1.coords t) → cond1_1 (grid1.coords t) → cfg1.idle 3 (grid1.coords t) = false := by decide +kernel

/-! ## The kernel body on any staging memrefs: a subtype the run finds -/

/-- One staging buffer of output window 3, through which its contents are stated (`View.read_writes_of_cover`: the
    choice does not matter). -/
abbrev VO1_3 : View sig .tc .vmem S1024x64 .bf16 := (Memref.whole cc1_stg3_0 : Memref sig .tc .vmem S1024x64 .bf16).view
/-- One staging buffer of output window 4, through which its contents are stated (`View.read_writes_of_cover`: the
    choice does not matter). -/
abbrev VO1_4 : View sig .tc .vmem S64x256 .f32 := (Memref.whole cc1_stg4_0 : Memref sig .tc .vmem S64x256 .f32).view
/-- Each window's current staging memref at point `t`, spelled as the pipeline passes it (`bodyAt1`), and its wholeness. -/
abbrev ms1_0 (t : Fin cfg1.N) : Memref sig .tc .vmem S1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x64 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x256 .f32 := win1_4.stage (cfg1.slots t 4)
abbrev hs1_4 (t : Fin cfg1.N) : (ms1_4 t).IsWhole := hstage1_4 ((cfg1.slots t 4).cast nbuf1_4)
/-- The scratch operands: whole scoped buffers of the kernel's own, passed beside the windows. -/
abbrev scM1_0 : Memref sig .tc .vmem S1024x64 .f32 := Memref.whole cc1_scratch0
/-- The scratch `arg6` the kernel carries between points, as a view: what it holds is stated through it. -/
abbrev VS1_0 : View sig .tc .vmem S1024x64 .f32 := scM1_0.view

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_scratch0), ((c : Thread nD τ).loc cc0_scratch0) ↦{fullShare} f) ∗ (∃ d, owns (c : Thread nD τ) scM1_0 fullShare d) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc2_stg7_1), ((c : Thread nD τ).loc cc2_stg7_1) ↦{fullShare} f) ∗ (∃ f : Buf (Elt F) ((c : Thread nD τ).loc cc2_stg8_0), ((c : Thread nD τ).loc cc2_stg8_0) ↦{fullShare} f) ∗ (∃ f : Buf (Elt F) ((c : Thread nD τ).loc cc2_stg8_1), ((c : Thread nD τ).loc cc2_stg8_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f)) ∗ (∃ r, prngReg c r)) := by
  unfold Pipeline.ΦA; rw [scopedRest1_eq]; simp only [scM1_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (3: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg1 : Memref sig .tc .vmem S1024x256 .bf16) (harg1 : arg1.IsWhole) (arg2 : Memref sig .tc .vmem S64x256 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S64x256 .f32) (harg5 : arg5.IsWhole) (arg6 : Memref sig .tc .vmem S1024x64 .f32) (harg6 : arg6.IsWhole) (hc0 : cond1_0 i) (hc1 : ¬cond1_1 i)
    (x0 : Vec F S1024x256 .bf16) (x1 : Vec F S64x256 .bf16) (x2 : Vec F S1024x64 .bf16) :
    Σ' (L3 : List (View.Piece (Elt F) S1024x64 .bf16)), Σ' (L4 : List (View.Piece (Elt F) S64x256 .f32)), { LS0 : List (View.Piece (Elt F) S1024x64 .f32) //
      ∀ (xi3 : Vec F S1024x64 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc1_g_db i arg1 harg1 arg2 harg2 arg3 harg3 arg4 harg4 arg5 harg5 arg6 harg6) K } := by
  refine ⟨[], ?_, ?_, fun xi3 E K => ?run⟩
  case run =>
    simp only [cc1_g_db_eq_skeleton]; unfold cc1_g_db_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

/-- Case A stores nothing into output 3 (the window is idle at its points and not written back there):
    no pieces — a placeholder (junk read back) that nothing consults, since at these points the window is neither
    written back nor read at the next point (Lib/Pipeline.lean "Idle points"). -/
def out1_A_3 (c : Dev nD) (i : grid1.Coords) (arg1 : Memref sig .tc .vmem S1024x256 .bf16) (harg1 : arg1.IsWhole) (arg2 : Memref sig .tc .vmem S64x256 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S64x256 .f32) (harg5 : arg5.IsWhole) (arg6 : Memref sig .tc .vmem S1024x64 .f32) (harg6 : arg6.IsWhole) (hc0 : cond1_0 i) (hc1 : ¬cond1_1 i)
    (x0 : Vec F S1024x256 .bf16) (x1 : Vec F S64x256 .bf16) (x2 : Vec F S1024x64 .bf16) : Vec F S1024x64 .bf16 :=
  VO1_3.read (Elt F) (VO1_3.writes (Elt F) VO1_3.junk (kernelRun1_A c i arg1 harg1 arg2 harg2 arg3 harg3 arg4 harg4 arg5 harg5 arg6 harg6 hc0 hc1 x0 x1 x2).1)

/-- Case A's pieces for output 4 tile its block (1 store of `S64x256`, checked by the kernel's evaluation: Lib/Ring.lean `Piece.tiledL`, linear in the pieces, through a loop's `@[irreducible]` trip theorem too), so they cover it. -/
theorem cover1_A_4 (c : Dev nD) (i : grid1.Coords) (arg1 : Memref sig .tc .vmem S1024x256 .bf16) (harg1 : arg1.IsWhole) (arg2 : Memref sig .tc .vmem S64x256 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S64x256 .f32) (harg5 : arg5.IsWhole) (arg6 : Memref sig .tc .vmem S1024x64 .f32) (harg6 : arg6.IsWhole) (hc0 : cond1_0 i) (hc1 : ¬cond1_1 i)
    (x0 : Vec F S1024x256 .bf16) (x1 : Vec F S64x256 .bf16) (x2 : Vec F S1024x64 .bf16) (y : S64x256.Idx) :
    ∃ pc ∈ (kernelRun1_A c i arg1 harg1 arg2 harg2 arg3 harg3 arg4 harg4 arg5 harg5 arg6 harg6 hc0 hc1 x0 x1 x2).2.1, y ∈ pc.1.set :=
  View.cover_of_tiledL (kernelRun1_A c i arg1 harg1 arg2 harg2 arg3 harg3 arg4 harg4 arg5 harg5 arg6 harg6 hc0 hc1 x0 x1 x2).2.1 S64x256.size (by sl_kernel_rfl) y

/-- What case A leaves in output 4's staging buffer: its pieces read back over junk. -/
def out1_A_4 (c : Dev nD) (i : grid1.Coords) (arg1 : Memref sig .tc .vmem S1024x256 .bf16) (harg1 : arg1.IsWhole) (arg2 : Memref sig .tc .vmem S64x256 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S64x256 .f32) (harg5 : arg5.IsWhole) (arg6 : Memref sig .tc .vmem S1024x64 .f32) (harg6 : arg6.IsWhole) (hc0 : cond1_0 i) (hc1 : ¬cond1_1 i)
    (x0 : Vec F S1024x256 .bf16) (x1 : Vec F S64x256 .bf16) (x2 : Vec F S1024x64 .bf16) : Vec F S64x256 .f32 :=
  VO1_4.read (Elt F) (VO1_4.writes (Elt F) VO1_4.junk (kernelRun1_A c i arg1 harg1 arg2 harg2 arg3 harg3 arg4 harg4 arg5 harg5 arg6 harg6 hc0 hc1 x0 x1 x2).2.1)

/-- Case A's pieces for scratch `arg6`, which the kernel carries between points, cover it: 2 pieces of `S1024x64` tiling it (Lib/Ring.lean `Piece.tiledL`). -/
theorem scover1_A_0 (c : Dev nD) (i : grid1.Coords) (arg1 : Memref sig .tc .vmem S1024x256 .bf16) (harg1 : arg1.IsWhole) (arg2 : Memref sig .tc .vmem S64x256 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S64x256 .f32) (harg5 : arg5.IsWhole) (arg6 : Memref sig .tc .vmem S1024x64 .f32) (harg6 : arg6.IsWhole) (hc0 : cond1_0 i) (hc1 : ¬cond1_1 i)
    (x0 : Vec F S1024x256 .bf16) (x1 : Vec F S64x256 .bf16) (x2 : Vec F S1024x64 .bf16) (y : S1024x64.Idx) :
    ∃ pc ∈ (kernelRun1_A c i arg1 harg1 arg2 harg2 arg3 harg3 arg4 harg4 arg5 harg5 arg6 harg6 hc0 hc1 x0 x1 x2).2.2.1, y ∈ pc.1.set :=
  View.cover_of_tiledL (kernelRun1_A c i arg1 harg1 arg2 harg2 arg3 harg3 arg4 harg4 arg5 harg5 arg6 harg6 hc0 hc1 x0 x1 x2).2.2.1 S1024x64.size (by sl_kernel_rfl) y

/-- What case A leaves in scratch `arg6`: its pieces read back over junk. -/
def sout1_A_0 (c : Dev nD) (i : grid1.Coords) (arg1 : Memref sig .tc .vmem S1024x256 .bf16) (harg1 : arg1.IsWhole) (arg2 : Memref sig .tc .vmem S64x256 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S64x256 .f32) (harg5 : arg5.IsWhole) (arg6 : Memref sig .tc .vmem S1024x64 .f32) (harg6 : arg6.IsWhole) (hc0 : cond1_0 i) (hc1 : ¬cond1_1 i)
    (x0 : Vec F S1024x256 .bf16) (x1 : Vec F S64x256 .bf16) (x2 : Vec F S1024x64 .bf16) : Vec F S1024x64 .f32 :=
  VS1_0.read (Elt F) (VS1_0.writes (Elt F) VS1_0.junk (kernelRun1_A c i arg1 harg1 arg2 harg2 arg3 harg3 arg4 harg4 arg5 harg5 arg6 harg6 hc0 hc1 x0 x1 x2).2.2.1)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 41: 41 of 43), WITH the
    proof that on whole staging memrefs — the inputs' at their contents, the outputs it leaves idle (3: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg1 : Memref sig .tc .vmem S1024x256 .bf16) (harg1 : arg1.IsWhole) (arg2 : Memref sig .tc .vmem S64x256 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S64x256 .f32) (harg5 : arg5.IsWhole) (arg6 : Memref sig .tc .vmem S1024x64 .f32) (harg6 : arg6.IsWhole) (hc0 : ¬cond1_0 i) (hc1 : ¬cond1_1 i)
    (x0 : Vec F S1024x256 .bf16) (x1 : Vec F S64x256 .bf16) (x2 : Vec F S1024x64 .bf16) (xs0 : Vec F S1024x64 .f32) :
    Σ' (L3 : List (View.Piece (Elt F) S1024x64 .bf16)), Σ' (L4 : List (View.Piece (Elt F) S64x256 .f32)), { LS0 : List (View.Piece (Elt F) S1024x64 .f32) //
      ∀ (xi3 : Vec F S1024x64 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc1_g_db i arg1 harg1 arg2 harg2 arg3 harg3 arg4 harg4 arg5 harg5 arg6 harg6) K } := by
  refine ⟨[], ?_, ?_, fun xi3 E K => ?run⟩
  case run =>
    simp only [cc1_g_db_eq_skeleton]; unfold cc1_g_db_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

/-- Case B stores nothing into output 3 (the window is idle at its points and not written back there):
    no pieces — a placeholder (junk read back) that nothing consults, since at these points the window is neither
    written back nor read at the next point (Lib/Pipeline.lean "Idle points"). -/
def out1_B_3 (c : Dev nD) (i : grid1.Coords) (arg1 : Memref sig .tc .vmem S1024x256 .bf16) (harg1 : arg1.IsWhole) (arg2 : Memref sig .tc .vmem S64x256 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S64x256 .f32) (harg5 : arg5.IsWhole) (arg6 : Memref sig .tc .vmem S1024x64 .f32) (harg6 : arg6.IsWhole) (hc0 : ¬cond1_0 i) (hc1 : ¬cond1_1 i)
    (x0 : Vec F S1024x256 .bf16) (x1 : Vec F S64x256 .bf16) (x2 : Vec F S1024x64 .bf16) (xs0 : Vec F S1024x64 .f32) : Vec F S1024x64 .bf16 :=
  VO1_3.read (Elt F) (VO1_3.writes (Elt F) VO1_3.junk (kernelRun1_B c i arg1 harg1 arg2 harg2 arg3 harg3 arg4 harg4 arg5 harg5 arg6 harg6 hc0 hc1 x0 x1 x2 xs0).1)

/-- Case B's pieces for output 4 tile its block (1 store of `S64x256`, checked by the kernel's evaluation: Lib/Ring.lean `Piece.tiledL`, linear in the pieces, through a loop's `@[irreducible]` trip theorem too), so they cover it. -/
theorem cover1_B_4 (c : Dev nD) (i : grid1.Coords) (arg1 : Memref sig .tc .vmem S1024x256 .bf16) (harg1 : arg1.IsWhole) (arg2 : Memref sig .tc .vmem S64x256 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S64x256 .f32) (harg5 : arg5.IsWhole) (arg6 : Memref sig .tc .vmem S1024x64 .f32) (harg6 : arg6.IsWhole) (hc0 : ¬cond1_0 i) (hc1 : ¬cond1_1 i)
    (x0 : Vec F S1024x256 .bf16) (x1 : Vec F S64x256 .bf16) (x2 : Vec F S1024x64 .bf16) (xs0 : Vec F S1024x64 .f32) (y : S64x256.Idx) :
    ∃ pc ∈ (kernelRun1_B c i arg1 harg1 arg2 harg2 arg3 harg3 arg4 harg4 arg5 harg5 arg6 harg6 hc0 hc1 x0 x1 x2 xs0).2.1, y ∈ pc.1.set :=
  View.cover_of_tiledL (kernelRun1_B c i arg1 harg1 arg2 harg2 arg3 harg3 arg4 harg4 arg5 harg5 arg6 harg6 hc0 hc1 x0 x1 x2 xs0).2.1 S64x256.size (by sl_kernel_rfl) y

/-- What case B leaves in output 4's staging buffer: its pieces read back over junk. -/
def out1_B_4 (c : Dev nD) (i : grid1.Coords) (arg1 : Memref sig .tc .vmem S1024x256 .bf16) (harg1 : arg1.IsWhole) (arg2 : Memref sig .tc .vmem S64x256 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S64x256 .f32) (harg5 : arg5.IsWhole) (arg6 : Memref sig .tc .vmem S1024x64 .f32) (harg6 : arg6.IsWhole) (hc0 : ¬cond1_0 i) (hc1 : ¬cond1_1 i)
    (x0 : Vec F S1024x256 .bf16) (x1 : Vec F S64x256 .bf16) (x2 : Vec F S1024x64 .bf16) (xs0 : Vec F S1024x64 .f32) : Vec F S64x256 .f32 :=
  VO1_4.read (Elt F) (VO1_4.writes (Elt F) VO1_4.junk (kernelRun1_B c i arg1 harg1 arg2 harg2 arg3 harg3 arg4 harg4 arg5 harg5 arg6 harg6 hc0 hc1 x0 x1 x2 xs0).2.1)

/-- Case B's pieces for scratch `arg6`, which the kernel carries between points, cover it: 1 piece of `S1024x64` tiling it (Lib/Ring.lean `Piece.tiledL`). -/
theorem scover1_B_0 (c : Dev nD) (i : grid1.Coords) (arg1 : Memref sig .tc .vmem S1024x256 .bf16) (harg1 : arg1.IsWhole) (arg2 : Memref sig .tc .vmem S64x256 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S64x256 .f32) (harg5 : arg5.IsWhole) (arg6 : Memref sig .tc .vmem S1024x64 .f32) (harg6 : arg6.IsWhole) (hc0 : ¬cond1_0 i) (hc1 : ¬cond1_1 i)
    (x0 : Vec F S1024x256 .bf16) (x1 : Vec F S64x256 .bf16) (x2 : Vec F S1024x64 .bf16) (xs0 : Vec F S1024x64 .f32) (y : S1024x64.Idx) :
    ∃ pc ∈ (kernelRun1_B c i arg1 harg1 arg2 harg2 arg3 harg3 arg4 harg4 arg5 harg5 arg6 harg6 hc0 hc1 x0 x1 x2 xs0).2.2.1, y ∈ pc.1.set :=
  View.cover_of_tiledL (kernelRun1_B c i arg1 harg1 arg2 harg2 arg3 harg3 arg4 harg4 arg5 harg5 arg6 harg6 hc0 hc1 x0 x1 x2 xs0).2.2.1 S1024x64.size (by sl_kernel_rfl) y

/-- What case B leaves in scratch `arg6`: its pieces read back over junk. -/
def sout1_B_0 (c : Dev nD) (i : grid1.Coords) (arg1 : Memref sig .tc .vmem S1024x256 .bf16) (harg1 : arg1.IsWhole) (arg2 : Memref sig .tc .vmem S64x256 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S64x256 .f32) (harg5 : arg5.IsWhole) (arg6 : Memref sig .tc .vmem S1024x64 .f32) (harg6 : arg6.IsWhole) (hc0 : ¬cond1_0 i) (hc1 : ¬cond1_1 i)
    (x0 : Vec F S1024x256 .bf16) (x1 : Vec F S64x256 .bf16) (x2 : Vec F S1024x64 .bf16) (xs0 : Vec F S1024x64 .f32) : Vec F S1024x64 .f32 :=
  VS1_0.read (Elt F) (VS1_0.writes (Elt F) VS1_0.junk (kernelRun1_B c i arg1 harg1 arg2 harg2 arg3 harg3 arg4 harg4 arg5 harg5 arg6 harg6 hc0 hc1 x0 x1 x2 xs0).2.2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 42), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_C (c : Dev nD) (i : grid1.Coords) (arg1 : Memref sig .tc .vmem S1024x256 .bf16) (harg1 : arg1.IsWhole) (arg2 : Memref sig .tc .vmem S64x256 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S64x256 .f32) (harg5 : arg5.IsWhole) (arg6 : Memref sig .tc .vmem S1024x64 .f32) (harg6 : arg6.IsWhole) (hc0 : ¬cond1_0 i) (hc1 : cond1_1 i)
    (x0 : Vec F S1024x256 .bf16) (x1 : Vec F S64x256 .bf16) (x2 : Vec F S1024x64 .bf16) (xs0 : Vec F S1024x64 .f32) :
    Σ' (L3 : List (View.Piece (Elt F) S1024x64 .bf16)), Σ' (L4 : List (View.Piece (Elt F) S64x256 .f32)), { LS0 : List (View.Piece (Elt F) S1024x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc1_g_db i arg1 harg1 arg2 harg2 arg3 harg3 arg4 harg4 arg5 harg5 arg6 harg6) K } := by
  refine ⟨?_, ?_, ?_, fun E K => ?run⟩
  case run =>
    simp only [cc1_g_db_eq_skeleton]; unfold cc1_g_db_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg6.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact HS0

/-- Case C's pieces for output 3 tile its block (1 store of `S1024x64`, checked by the kernel's evaluation: Lib/Ring.lean `Piece.tiledL`, linear in the pieces, through a loop's `@[irreducible]` trip theorem too), so they cover it. -/
theorem cover1_C_3 (c : Dev nD) (i : grid1.Coords) (arg1 : Memref sig .tc .vmem S1024x256 .bf16) (harg1 : arg1.IsWhole) (arg2 : Memref sig .tc .vmem S64x256 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S64x256 .f32) (harg5 : arg5.IsWhole) (arg6 : Memref sig .tc .vmem S1024x64 .f32) (harg6 : arg6.IsWhole) (hc0 : ¬cond1_0 i) (hc1 : cond1_1 i)
    (x0 : Vec F S1024x256 .bf16) (x1 : Vec F S64x256 .bf16) (x2 : Vec F S1024x64 .bf16) (xs0 : Vec F S1024x64 .f32) (y : S1024x64.Idx) :
    ∃ pc ∈ (kernelRun1_C c i arg1 harg1 arg2 harg2 arg3 harg3 arg4 harg4 arg5 harg5 arg6 harg6 hc0 hc1 x0 x1 x2 xs0).1, y ∈ pc.1.set :=
  View.cover_of_tiledL (kernelRun1_C c i arg1 harg1 arg2 harg2 arg3 harg3 arg4 harg4 arg5 harg5 arg6 harg6 hc0 hc1 x0 x1 x2 xs0).1 S1024x64.size (by sl_kernel_rfl) y

/-- What case C leaves in output 3's staging buffer: its pieces read back over junk. -/
def out1_C_3 (c : Dev nD) (i : grid1.Coords) (arg1 : Memref sig .tc .vmem S1024x256 .bf16) (harg1 : arg1.IsWhole) (arg2 : Memref sig .tc .vmem S64x256 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S64x256 .f32) (harg5 : arg5.IsWhole) (arg6 : Memref sig .tc .vmem S1024x64 .f32) (harg6 : arg6.IsWhole) (hc0 : ¬cond1_0 i) (hc1 : cond1_1 i)
    (x0 : Vec F S1024x256 .bf16) (x1 : Vec F S64x256 .bf16) (x2 : Vec F S1024x64 .bf16) (xs0 : Vec F S1024x64 .f32) : Vec F S1024x64 .bf16 :=
  VO1_3.read (Elt F) (VO1_3.writes (Elt F) VO1_3.junk (kernelRun1_C c i arg1 harg1 arg2 harg2 arg3 harg3 arg4 harg4 arg5 harg5 arg6 harg6 hc0 hc1 x0 x1 x2 xs0).1)

/-- Case C's pieces for output 4 tile its block (1 store of `S64x256`, checked by the kernel's evaluation: Lib/Ring.lean `Piece.tiledL`, linear in the pieces, through a loop's `@[irreducible]` trip theorem too), so they cover it. -/
theorem cover1_C_4 (c : Dev nD) (i : grid1.Coords) (arg1 : Memref sig .tc .vmem S1024x256 .bf16) (harg1 : arg1.IsWhole) (arg2 : Memref sig .tc .vmem S64x256 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S64x256 .f32) (harg5 : arg5.IsWhole) (arg6 : Memref sig .tc .vmem S1024x64 .f32) (harg6 : arg6.IsWhole) (hc0 : ¬cond1_0 i) (hc1 : cond1_1 i)
    (x0 : Vec F S1024x256 .bf16) (x1 : Vec F S64x256 .bf16) (x2 : Vec F S1024x64 .bf16) (xs0 : Vec F S1024x64 .f32) (y : S64x256.Idx) :
    ∃ pc ∈ (kernelRun1_C c i arg1 harg1 arg2 harg2 arg3 harg3 arg4 harg4 arg5 harg5 arg6 harg6 hc0 hc1 x0 x1 x2 xs0).2.1, y ∈ pc.1.set :=
  View.cover_of_tiledL (kernelRun1_C c i arg1 harg1 arg2 harg2 arg3 harg3 arg4 harg4 arg5 harg5 arg6 harg6 hc0 hc1 x0 x1 x2 xs0).2.1 S64x256.size (by sl_kernel_rfl) y

/-- What case C leaves in output 4's staging buffer: its pieces read back over junk. -/
def out1_C_4 (c : Dev nD) (i : grid1.Coords) (arg1 : Memref sig .tc .vmem S1024x256 .bf16) (harg1 : arg1.IsWhole) (arg2 : Memref sig .tc .vmem S64x256 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S64x256 .f32) (harg5 : arg5.IsWhole) (arg6 : Memref sig .tc .vmem S1024x64 .f32) (harg6 : arg6.IsWhole) (hc0 : ¬cond1_0 i) (hc1 : cond1_1 i)
    (x0 : Vec F S1024x256 .bf16) (x1 : Vec F S64x256 .bf16) (x2 : Vec F S1024x64 .bf16) (xs0 : Vec F S1024x64 .f32) : Vec F S64x256 .f32 :=
  VO1_4.read (Elt F) (VO1_4.writes (Elt F) VO1_4.junk (kernelRun1_C c i arg1 harg1 arg2 harg2 arg3 harg3 arg4 harg4 arg5 harg5 arg6 harg6 hc0 hc1 x0 x1 x2 xs0).2.1)

/-- Case C's pieces for scratch `arg6`, which the kernel carries between points, cover it: 1 piece of `S1024x64` tiling it (Lib/Ring.lean `Piece.tiledL`). -/
theorem scover1_C_0 (c : Dev nD) (i : grid1.Coords) (arg1 : Memref sig .tc .vmem S1024x256 .bf16) (harg1 : arg1.IsWhole) (arg2 : Memref sig .tc .vmem S64x256 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S64x256 .f32) (harg5 : arg5.IsWhole) (arg6 : Memref sig .tc .vmem S1024x64 .f32) (harg6 : arg6.IsWhole) (hc0 : ¬cond1_0 i) (hc1 : cond1_1 i)
    (x0 : Vec F S1024x256 .bf16) (x1 : Vec F S64x256 .bf16) (x2 : Vec F S1024x64 .bf16) (xs0 : Vec F S1024x64 .f32) (y : S1024x64.Idx) :
    ∃ pc ∈ (kernelRun1_C c i arg1 harg1 arg2 harg2 arg3 harg3 arg4 harg4 arg5 harg5 arg6 harg6 hc0 hc1 x0 x1 x2 xs0).2.2.1, y ∈ pc.1.set :=
  View.cover_of_tiledL (kernelRun1_C c i arg1 harg1 arg2 harg2 arg3 harg3 arg4 harg4 arg5 harg5 arg6 harg6 hc0 hc1 x0 x1 x2 xs0).2.2.1 S1024x64.size (by sl_kernel_rfl) y

/-- What case C leaves in scratch `arg6`: its pieces read back over junk. -/
def sout1_C_0 (c : Dev nD) (i : grid1.Coords) (arg1 : Memref sig .tc .vmem S1024x256 .bf16) (harg1 : arg1.IsWhole) (arg2 : Memref sig .tc .vmem S64x256 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S64x256 .f32) (harg5 : arg5.IsWhole) (arg6 : Memref sig .tc .vmem S1024x64 .f32) (harg6 : arg6.IsWhole) (hc0 : ¬cond1_0 i) (hc1 : cond1_1 i)
    (x0 : Vec F S1024x256 .bf16) (x1 : Vec F S64x256 .bf16) (x2 : Vec F S1024x64 .bf16) (xs0 : Vec F S1024x64 .f32) : Vec F S1024x64 .f32 :=
  VS1_0.read (Elt F) (VS1_0.writes (Elt F) VS1_0.junk (kernelRun1_C c i arg1 harg1 arg2 harg2 arg3 harg3 arg4 harg4 arg5 harg5 arg6 harg6 hc0 hc1 x0 x1 x2 xs0).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S1024x64 .bf16 × Vec F S64x256 .f32 × Vec F S1024x64 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 43 = 0 then
      if h1 : (n + 1) % 43 = 42 then
        False.elim (by have hN : n + 1 < 43 := lt_of_lt_of_eq hn (show cfg1.N = 43 from N_1); omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 43 = 42 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2, out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2, out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2)

/-- `outsAt1` at a point of case A: that case's contents. -/
theorem outsAt1_A (c : Dev nD) (t : Fin cfg1.N) (h0 : t.val % 43 = 0) (h1 : ¬t.val % 43 = 42) :
    outsAt1 V c t.val t.isLt = (out1_A_3 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t), out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 43 = 0) (h1 : ¬t.val % 43 = 42) :
    outsAt1 V c t.val t.isLt = (out1_B_3 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.2, out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 43 = 0) (h1 : t.val % 43 = 42) :
    outsAt1 V c t.val t.isLt = (out1_C_3 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2, out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2.2) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc2_stg7_1), ((c : Thread nD τ).loc cc2_stg7_1) ↦{fullShare} f) ∗ (∃ f : Buf (Elt F) ((c : Thread nD τ).loc cc2_stg8_0), ((c : Thread nD τ).loc cc2_stg8_0) ↦{fullShare} f) ∗ (∃ f : Buf (Elt F) ((c : Thread nD τ).loc cc2_stg8_1), ((c : Thread nD τ).loc cc2_stg8_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried scratch at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2.2) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc2_stg7_1), ((c : Thread nD τ).loc cc2_stg7_1) ↦{fullShare} f) ∗ (∃ f : Buf (Elt F) ((c : Thread nD τ).loc cc2_stg8_0), ((c : Thread nD τ).loc cc2_stg8_0) ↦{fullShare} f) ∗ (∃ f : Buf (Elt F) ((c : Thread nD τ).loc cc2_stg8_1), ((c : Thread nD τ).loc cc2_stg8_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f)) ∗ (∃ r, prngReg c r)) := rfl

/-- Before a point that is not the first: the carried scratch at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c (n - 1) (by omega)).2.2) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc2_stg7_1), ((c : Thread nD τ).loc cc2_stg7_1) ↦{fullShare} f) ∗ (∃ f : Buf (Elt F) ((c : Thread nD τ).loc cc2_stg8_0), ((c : Thread nD τ).loc cc2_stg8_0) ↦{fullShare} f) ∗ (∃ f : Buf (Elt F) ((c : Thread nD τ).loc cc2_stg8_1), ((c : Thread nD τ).loc cc2_stg8_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f)) ∗ (∃ r, prngReg c r)) := by
  cases n with
  | zero => exact absurd rfl hz
  | succ n => rfl

/-! ## The pipeline's proof data -/

/-- The proof data of pipeline 1 on core `c`: the arrays as the region finds them (`V`); after the body at
    point `t` each input's buffer at its block and the outputs' at `outsAt1`; the invariant the class's
    (`PhiS1`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
  Φ t := PhiS1 V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; exact Pipeline.Dat.Φ_castSucc (PhiS1 V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks (`before1_W`); the closed forms say which case the point is in (`by_cases`), an output the case reads before covering holds what the point before left (`before1_W_κ`); so the
    run applies; the invariant hands the body the carried scratch at what the point before left (`PhiS1_pos`; at anything at the first point, `PhiS1_zero`), the other scratch buffers and the generator register at some state, and takes the carried scratch back at this point's contents (`PhiS1_succ`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 43 := lt_of_lt_of_eq t.isLt (show cfg1.N = 43 from N_1)
  by_cases h0 : t.val % 43 = 0
  · by_cases h1 : t.val % 43 = 42
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [show (dat1 V c).leavesExact 4 t = owns (c : Thread nD τ) (ms1_4 t) fullShare ((dat1 V c).after 4 t) from by
      unfold Dat.leavesExact; rw [liveAt1_4 t], after1_4]
      by_cases hz : t.val = 0
      · rw [PhiS1_castSucc V c t, PhiS1_zero V c _ _ hz, PhiA1_eq]
        rw [outsAt1_A V c t h0 h1]
        unfold out1_A_4 sout1_A_0; (try dsimp only)
        iintro ⟨⟨⟨HR0, HR1, HR2, HR3, HR4, HR5, HR6, HR7, HS0, HR9, HR10, HR11, HR12, HR13, HR14, HR15, HR16, HR17, HR18, HR19, HR20, HR21, HR22, HR23, HR24, HR25⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HR0 HR1 HR2 HR3 HR4 HR5 HR6 HR7 HS0 HR9 HR10 HR11 HR12 HR13 HR14 HR15 HR16 HR17 HR18 HR19 HR20 HR21 HR22 HR23 HR24 HR25 Hg]
        · isplitl [HR0 HR1 HR2 HR3 HR4 HR5 HR6 HR7 HS0 HR9 HR10 HR11 HR12 HR13 HR14 HR15 HR16 HR17 HR18 HR19 HR20 HR21 HR22 HR23 HR24 HR25]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HS0]
            · unfold owns; iexists _; isplitr
              swap; · iexact HS0
              ipureintro; exact View.read_writes_of_cover _ _ _ _ _ (scover1_A_0 c _ _ _ _ _ _ _ _ _ _ _ _ _ _ _ _ _ _)
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            isplitl [HR16]
            · iexact HR16
            isplitl [HR17]
            · iexact HR17
            isplitl [HR18]
            · iexact HR18
            isplitl [HR19]
            · iexact HR19
            isplitl [HR20]
            · iexact HR20
            isplitl [HR21]
            · iexact HR21
            isplitl [HR22]
            · iexact HR22
            isplitl [HR23]
            · iexact HR23
            isplitl [HR24]
            · iexact HR24
            iexact HR25
          iexact Hg
        isplitl [Ho]; · iexact Ho
        isplitl [H0]; · iexact H0
        isplitl [H1]; · iexact H1
        isplitl [H2]; · iexact H2
        isplitl [H3]; · iexists _; iexact H3
        unfold owns; iexists _; isplitr
        swap; · iexact H4
        ipureintro; exact View.read_writes_of_cover _ _ _ _ _ (cover1_A_4 c _ _ _ _ _ _ _ _ _ _ _ _ _ _ _ _ _ _)
      · exfalso; have hN : t.val < 43 := lt_of_lt_of_eq t.isLt (show cfg1.N = 43 from N_1); omega
  · by_cases h1 : t.val % 43 = 42
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3_C t (fun h => h0 ((hcond1_0 t).mp h)) ((hcond1_1 t).mpr h1)], after1_3]
      rw [show (dat1 V c).leavesExact 4 t = owns (c : Thread nD τ) (ms1_4 t) fullShare ((dat1 V c).after 4 t) from by
      unfold Dat.leavesExact; rw [liveAt1_4 t], after1_4]
      by_cases hz : t.val = 0
      · exfalso; have hN : t.val < 43 := lt_of_lt_of_eq t.isLt (show cfg1.N = 43 from N_1); omega
      · rw [PhiS1_castSucc V c t, PhiS1_pos V c _ _ hz]
        rw [outsAt1_C V c t h0 h1]
        unfold out1_C_3 out1_C_4 sout1_C_0; (try dsimp only)
        iintro ⟨⟨⟨HR0, HR1, HR2, HR3, HR4, HR5, HR6, HR7, HS0, HR9, HR10, HR11, HR12, HR13, HR14, HR15, HR16, HR17, HR18, HR19, HR20, HR21, HR22, HR23, HR24, HR25⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) _).2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        iintro ⟨H0, H1, H2, ⟨%e3, H3⟩, ⟨%e4, H4⟩, ⟨%es0, HS0⟩⟩
        isplitl [HR0 HR1 HR2 HR3 HR4 HR5 HR6 HR7 HS0 HR9 HR10 HR11 HR12 HR13 HR14 HR15 HR16 HR17 HR18 HR19 HR20 HR21 HR22 HR23 HR24 HR25 Hg]
        · isplitl [HR0 HR1 HR2 HR3 HR4 HR5 HR6 HR7 HS0 HR9 HR10 HR11 HR12 HR13 HR14 HR15 HR16 HR17 HR18 HR19 HR20 HR21 HR22 HR23 HR24 HR25]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HS0]
            · unfold owns; iexists _; isplitr
              swap; · iexact HS0
              ipureintro; exact View.read_writes_of_cover _ _ _ _ _ (scover1_C_0 c _ _ _ _ _ _ _ _ _ _ _ _ _ _ _ _ _ _ _)
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            isplitl [HR16]
            · iexact HR16
            isplitl [HR17]
            · iexact HR17
            isplitl [HR18]
            · iexact HR18
            isplitl [HR19]
            · iexact HR19
            isplitl [HR20]
            · iexact HR20
            isplitl [HR21]
            · iexact HR21
            isplitl [HR22]
            · iexact HR22
            isplitl [HR23]
            · iexact HR23
            isplitl [HR24]
            · iexact HR24
            iexact HR25
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover1_C_3 c _ _ _ _ _ _ _ _ _ _ _ _ _ _ _ _ _ _ _)
        unfold owns; iexists _; isplitr
        swap; · iexact H4
        ipureintro; exact View.read_writes_of_cover _ _ _ _ _ (cover1_C_4 c _ _ _ _ _ _ _ _ _ _ _ _ _ _ _ _ _ _ _)
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [show (dat1 V c).leavesExact 4 t = owns (c : Thread nD τ) (ms1_4 t) fullShare ((dat1 V c).after 4 t) from by
      unfold Dat.leavesExact; rw [liveAt1_4 t], after1_4]
      by_cases hz : t.val = 0
      · exfalso; have hN : t.val < 43 := lt_of_lt_of_eq t.isLt (show cfg1.N = 43 from N_1); omega
      · rw [PhiS1_castSucc V c t, PhiS1_pos V c _ _ hz]
        rw [outsAt1_B V c t h0 h1]
        unfold out1_B_4 sout1_B_0; (try dsimp only)
        iintro ⟨⟨⟨HR0, HR1, HR2, HR3, HR4, HR5, HR6, HR7, HS0, HR9, HR10, HR11, HR12, HR13, HR14, HR15, HR16, HR17, HR18, HR19, HR20, HR21, HR22, HR23, HR24, HR25⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) _).2.2.2 _ Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HR0 HR1 HR2 HR3 HR4 HR5 HR6 HR7 HS0 HR9 HR10 HR11 HR12 HR13 HR14 HR15 HR16 HR17 HR18 HR19 HR20 HR21 HR22 HR23 HR24 HR25 Hg]
        · isplitl [HR0 HR1 HR2 HR3 HR4 HR5 HR6 HR7 HS0 HR9 HR10 HR11 HR12 HR13 HR14 HR15 HR16 HR17 HR18 HR19 HR20 HR21 HR22 HR23 HR24 HR25]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HS0]
            · unfold owns; iexists _; isplitr
              swap; · iexact HS0
              ipureintro; exact View.read_writes_of_cover _ _ _ _ _ (scover1_B_0 c _ _ _ _ _ _ _ _ _ _ _ _ _ _ _ _ _ _ _)
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            isplitl [HR16]
            · iexact HR16
            isplitl [HR17]
            · iexact HR17
            isplitl [HR18]
            · iexact HR18
            isplitl [HR19]
            · iexact HR19
            isplitl [HR20]
            · iexact HR20
            isplitl [HR21]
            · iexact HR21
            isplitl [HR22]
            · iexact HR22
            isplitl [HR23]
            · iexact HR23
            isplitl [HR24]
            · iexact HR24
            iexact HR25
          iexact Hg
        isplitl [Ho]; · iexact Ho
        isplitl [H0]; · iexact H0
        isplitl [H1]; · iexact H1
        isplitl [H2]; · iexact H2
        isplitl [H3]; · iexists _; iexact H3
        unfold owns; iexists _; isplitr
        swap; · iexact H4
        ipureintro; exact View.read_writes_of_cover _ _ _ _ _ (cover1_B_4 c _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives `ΦA` back: the carried scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HR6, HR7, HS0, HR9, HR10, HR11, HR12, HR13, HR14, HR15, HR16, HR17, HR18, HR19, HR20, HR21, HR22, HR23, HR24, HR25⟩, Hg⟩
  isplitl [HR0 HR1 HR2 HR3 HR4 HR5 HR6 HR7 HS0 HR9 HR10 HR11 HR12 HR13 HR14 HR15 HR16 HR17 HR18 HR19 HR20 HR21 HR22 HR23 HR24 HR25]
  · isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HS0]
    · iexists _; iexact HS0
    isplitl [HR9]
    · iexact HR9
    isplitl [HR10]
    · iexact HR10
    isplitl [HR11]
    · iexact HR11
    isplitl [HR12]
    · iexact HR12
    isplitl [HR13]
    · iexact HR13
    isplitl [HR14]
    · iexact HR14
    isplitl [HR15]
    · iexact HR15
    isplitl [HR16]
    · iexact HR16
    isplitl [HR17]
    · iexact HR17
    isplitl [HR18]
    · iexact HR18
    isplitl [HR19]
    · iexact HR19
    isplitl [HR20]
    · iexact HR20
    isplitl [HR21]
    · iexact HR21
    isplitl [HR22]
    · iexact HR22
    isplitl [HR23]
    · iexact HR23
    isplitl [HR24]
    · iexact HR24
    iexact HR25
  iexact Hg

/-- The same after the last point. -/
theorem hout1 (c : Dev nD) : (dat1 V c).Φ (Fin.last cfg1.N) ⊢ Pipeline.ΦA spec1 c :=
  Phi_out1 V c _ (by rw [Fin.val_last]; have : cfg1.N = 43 := N_1; omega)

end Regions

end Cert.KernelIdeal.Own

end
-- ==== Proof.Ideal.Region2.lean ====
/- The third call (dx and da): its windows, its runs by case, the contents each grid point leaves, and the body's obligation. -/
module

public import proofs.«01_k».proof.Proof.Ideal.Rest
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2_dx` (pipeline 2), at the entry contents `V` -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's `scf.if` 0 (`k2_h1`), from the grid coordinates (the skeleton's scalar
    chain substituted). -/
abbrev cond2_0 (i : grid2.Coords) : Prop := (Scalar.cmpi .ne (Scalar.extui (Scalar.cmpi .eq (BitVec.ofNat 32 (i 0).val) 0#32)) 0#32) = 1#1
/-- It holds at the first point only — by arithmetic of the point. -/
theorem hcond2_0 : ∀ t : Fin cfg2.N, cond2_0 (grid2.coords t) ↔ t.val % 8 = 0 :=
  (fun t => by
    have ht : t.val < 8 := Nat.lt_of_lt_of_eq t.isLt N_2
    have e0 : (grid2.coords t 0).val = t.val / 1 % 8 := Pipeline.Grid.coords_val t 0 (by decide) rfl
    simp only [cond2_0, e0]
    word_cmp
   : ∀ t : Fin grid2.N, cond2_0 (grid2.coords t) ↔ t.val % 8 = 0)

/-! ## The kernel body on any staging memrefs: a subtype the run finds -/

/-- One staging buffer of output window 7, through which its contents are stated (`View.read_writes_of_cover`: the
    choice does not matter). -/
abbrev VO2_7 : View sig .tc .vmem S1024x512 .bf16 := (Memref.whole cc2_stg7_0 : Memref sig .tc .vmem S1024x512 .bf16).view
/-- One staging buffer of output window 8, through which its contents are stated (`View.read_writes_of_cover`: the
    choice does not matter). -/
abbrev VO2_8 : View sig .tc .vmem S512x64 .f32 := (Memref.whole cc2_stg8_0 : Memref sig .tc .vmem S512x64 .f32).view
/-- Each window's current staging memref at point `t`, spelled as the pipeline passes it (`bodyAt2`), and its wholeness. -/
abbrev ms2_0 (t : Fin cfg2.N) : Memref sig .tc .vmem S1024x11008 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x11008 .i8 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S32x11008 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x512 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x512 .i8 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S512x64 .bf16 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1024x64 .bf16 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1024x512 .bf16 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S512x64 .f32 := win2_8.stage (cfg2.slots t 8)
abbrev hs2_8 (t : Fin cfg2.N) : (ms2_8 t).IsWhole := hstage2_8 ((cfg2.slots t 8).cast nbuf2_8)
/-- The scratch operands: whole scoped buffers of the kernel's own, passed beside the windows. -/
abbrev scM2_0 : Memref sig .tc .vmem S32x11008 .f32 := Memref.whole cc2_scratch0
abbrev scM2_1 : Memref sig .tc .vmem S512x11008 .bf16 := Memref.whole cc2_scratch1
/-- The scratch `arg10` the kernel carries between points, as a view: what it holds is stated through it. -/
abbrev VS2_0 : View sig .tc .vmem S32x11008 .f32 := scM2_0.view

/-- The frame kit's invariant with the scratch operands as memrefs owned at some contents (`Gen.scopedRest2_eq`,
    Lib/Memref.lean `owns_whole`): what the body obligation hands the run and takes back. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ d, owns (c : Thread nD τ) scM2_0 fullShare d) ∗ (∃ d, owns (c : Thread nD τ) scM2_1 fullShare d)) ∗ (∃ r, prngReg c r)) := by
  unfold Pipeline.ΦA; rw [scopedRest2_eq]; simp only [scM2_0, scM2_1, owns_whole]; try rfl

-- (the run's proof term is large: the definition's epilogue — `abstractNestedProofs` — walks it past the default budget)
set_option maxHeartbeats 5612000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_A (c : Dev nD) (i : grid2.Coords) (arg1 : Memref sig .tc .vmem S1024x11008 .bf16) (harg1 : arg1.IsWhole) (arg2 : Memref sig .tc .vmem S256x11008 .i8) (harg2 : arg2.IsWhole) (arg3 : Memref sig .tc .vmem S32x11008 .bf16) (harg3 : arg3.IsWhole) (arg4 : Memref sig .tc .vmem S1024x512 .bf16) (harg4 : arg4.IsWhole) (arg5 : Memref sig .tc .vmem S1024x512 .i8) (harg5 : arg5.IsWhole) (arg6 : Memref sig .tc .vmem S512x64 .bf16) (harg6 : arg6.IsWhole) (arg7 : Memref sig .tc .vmem S1024x64 .bf16) (harg7 : arg7.IsWhole) (arg8 : Memref sig .tc .vmem S1024x512 .bf16) (harg8 : arg8.IsWhole) (arg9 : Memref sig .tc .vmem S512x64 .f32) (harg9 : arg9.IsWhole) (arg10 : Memref sig .tc .vmem S32x11008 .f32) (harg10 : arg10.IsWhole) (arg11 : Memref sig .tc .vmem S512x11008 .bf16) (harg11 : arg11.IsWhole) (hc0 : cond2_0 i)
    (x0 : Vec F S1024x11008 .bf16) (x1 : Vec F S256x11008 .i8) (x2 : Vec F S32x11008 .bf16) (x3 : Vec F S1024x512 .bf16) (x4 : Vec F S1024x512 .i8) (x5 : Vec F S512x64 .bf16) (x6 : Vec F S1024x64 .bf16) :
    Σ' (L7 : List (View.Piece (Elt F) S1024x512 .bf16)), Σ' (L8 : List (View.Piece (Elt F) S512x64 .f32)), Σ' (LS0 : List (View.Piece (Elt F) S32x11008 .f32)), { LT1 : List (View.Piece (Elt F) S512x11008 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LT1)) -∗ K ⟨⟩))
          ⊢ wp frame (wpE (defs₀ (F := F)) Variants.none c none) E (cc2_dx i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc2_dx_eq_skeleton]; unfold cc2_dx_skel
    simp only [k2_part66_eq_skeleton, k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton, k2_part16_eq_skeleton, k2_part17_eq_skeleton, k2_part18_eq_skeleton, k2_part19_eq_skeleton, k2_part20_eq_skeleton, k2_part21_eq_skeleton, k2_part22_eq_skeleton, k2_part23_eq_skeleton, k2_part24_eq_skeleton, k2_part25_eq_skeleton, k2_part26_eq_skeleton, k2_part27_eq_skeleton, k2_part28_eq_skeleton, k2_part29_eq_skeleton, k2_part30_eq_skeleton, k2_part31_eq_skeleton, k2_part32_eq_skeleton, k2_part33_eq_skeleton, k2_part34_eq_skeleton, k2_part35_eq_skeleton, k2_part36_eq_skeleton, k2_part37_eq_skeleton, k2_part38_eq_skeleton, k2_part39_eq_skeleton, k2_part40_eq_skeleton, k2_part41_eq_skeleton, k2_part42_eq_skeleton, k2_part43_eq_skeleton, k2_part44_eq_skeleton, k2_part45_eq_skeleton, k2_part46_eq_skeleton, k2_part47_eq_skeleton, k2_part48_eq_skeleton, k2_part49_eq_skeleton, k2_part50_eq_skeleton, k2_part51_eq_skeleton, k2_part52_eq_skeleton, k2_part53_eq_skeleton, k2_part54_eq_skeleton, k2_part55_eq_skeleton, k2_part56_eq_skeleton, k2_part57_eq_skeleton, k2_part58_eq_skeleton, k2_part59_eq_skeleton, k2_part60_eq_skeleton, k2_part61_eq_skeleton, k2_part62_eq_skeleton, k2_part63_eq_skeleton, k2_part64_eq_skeleton, k2_part65_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [HS0]; · iexists _; iexact HS0
    iexists _; iexact HS1

/-- Case A's pieces for output 7 tile its block (1 store of `S1024x512`, checked by the kernel's evaluation: Lib/Ring.lean `Piece.tiledL`, linear in the pieces, through a loop's `@[irreducible]` trip theorem too), so they cover it. -/
theorem cover2_A_7 (c : Dev nD) (i : grid2.Coords) (arg1 : Memref sig .tc .vmem S1024x11008 .bf16) (harg1 : arg1.IsWhole) (arg2 : Memref sig .tc .vmem S256x11008 .i8) (harg2 : arg2.IsWhole) (arg3 : Memref sig .tc .vmem S32x11008 .bf16) (harg3 : arg3.IsWhole) (arg4 : Memref sig .tc .vmem S1024x512 .bf16) (harg4 : arg4.IsWhole) (arg5 : Memref sig .tc .vmem S1024x512 .i8) (harg5 : arg5.IsWhole) (arg6 : Memref sig .tc .vmem S512x64 .bf16) (harg6 : arg6.IsWhole) (arg7 : Memref sig .tc .vmem S1024x64 .bf16) (harg7 : arg7.IsWhole) (arg8 : Memref sig .tc .vmem S1024x512 .bf16) (harg8 : arg8.IsWhole) (arg9 : Memref sig .tc .vmem S512x64 .f32) (harg9 : arg9.IsWhole) (arg10 : Memref sig .tc .vmem S32x11008 .f32) (harg10 : arg10.IsWhole) (arg11 : Memref sig .tc .vmem S512x11008 .bf16) (harg11 : arg11.IsWhole) (hc0 : cond2_0 i)
    (x0 : Vec F S1024x11008 .bf16) (x1 : Vec F S256x11008 .i8) (x2 : Vec F S32x11008 .bf16) (x3 : Vec F S1024x512 .bf16) (x4 : Vec F S1024x512 .i8) (x5 : Vec F S512x64 .bf16) (x6 : Vec F S1024x64 .bf16) (y : S1024x512.Idx) :
    ∃ pc ∈ (kernelRun2_A c i arg1 harg1 arg2 harg2 arg3 harg3 arg4 harg4 arg5 harg5 arg6 harg6 arg7 harg7 arg8 harg8 arg9 harg9 arg10 harg10 arg11 harg11 hc0 x0 x1 x2 x3 x4 x5 x6).1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 x0 x1 x2 x3 x4 x5 x6).1 S1024x512.size (by sl_kernel_rfl) y

/-- What case A leaves in output 7's staging buffer: its pieces read back over junk. -/
def out2_A_7 (c : Dev nD) (i : grid2.Coords) (arg1 : Memref sig .tc .vmem S1024x11008 .bf16) (harg1 : arg1.IsWhole) (arg2 : Memref sig .tc .vmem S256x11008 .i8) (harg2 : arg2.IsWhole) (arg3 : Memref sig .tc .vmem S32x11008 .bf16) (harg3 : arg3.IsWhole) (arg4 : Memref sig .tc .vmem S1024x512 .bf16) (harg4 : arg4.IsWhole) (arg5 : Memref sig .tc .vmem S1024x512 .i8) (harg5 : arg5.IsWhole) (arg6 : Memref sig .tc .vmem S512x64 .bf16) (harg6 : arg6.IsWhole) (arg7 : Memref sig .tc .vmem S1024x64 .bf16) (harg7 : arg7.IsWhole) (arg8 : Memref sig .tc .vmem S1024x512 .bf16) (harg8 : arg8.IsWhole) (arg9 : Memref sig .tc .vmem S512x64 .f32) (harg9 : arg9.IsWhole) (arg10 : Memref sig .tc .vmem S32x11008 .f32) (harg10 : arg10.IsWhole) (arg11 : Memref sig .tc .vmem S512x11008 .bf16) (harg11 : arg11.IsWhole) (hc0 : cond2_0 i)
    (x0 : Vec F S1024x11008 .bf16) (x1 : Vec F S256x11008 .i8) (x2 : Vec F S32x11008 .bf16) (x3 : Vec F S1024x512 .bf16) (x4 : Vec F S1024x512 .i8) (x5 : Vec F S512x64 .bf16) (x6 : Vec F S1024x64 .bf16) : Vec F S1024x512 .bf16 :=
  VO2_7.read (Elt F) (VO2_7.writes (Elt F) VO2_7.junk (kernelRun2_A c i arg1 harg1 arg2 harg2 arg3 harg3 arg4 harg4 arg5 harg5 arg6 harg6 arg7 harg7 arg8 harg8 arg9 harg9 arg10 harg10 arg11 harg11 hc0 x0 x1 x2 x3 x4 x5 x6).1)

/-- Case A's pieces for output 8 tile its block (1 store of `S512x64`, checked by the kernel's evaluation: Lib/Ring.lean `Piece.tiledL`, linear in the pieces, through a loop's `@[irreducible]` trip theorem too), so they cover it. -/
theorem cover2_A_8 (c : Dev nD) (i : grid2.Coords) (arg1 : Memref sig .tc .vmem S1024x11008 .bf16) (harg1 : arg1.IsWhole) (arg2 : Memref sig .tc .vmem S256x11008 .i8) (harg2 : arg2.IsWhole) (arg3 : Memref sig .tc .vmem S32x11008 .bf16) (harg3 : arg3.IsWhole) (arg4 : Memref sig .tc .vmem S1024x512 .bf16) (harg4 : arg4.IsWhole) (arg5 : Memref sig .tc .vmem S1024x512 .i8) (harg5 : arg5.IsWhole) (arg6 : Memref sig .tc .vmem S512x64 .bf16) (harg6 : arg6.IsWhole) (arg7 : Memref sig .tc .vmem S1024x64 .bf16) (harg7 : arg7.IsWhole) (arg8 : Memref sig .tc .vmem S1024x512 .bf16) (harg8 : arg8.IsWhole) (arg9 : Memref sig .tc .vmem S512x64 .f32) (harg9 : arg9.IsWhole) (arg10 : Memref sig .tc .vmem S32x11008 .f32) (harg10 : arg10.IsWhole) (arg11 : Memref sig .tc .vmem S512x11008 .bf16) (harg11 : arg11.IsWhole) (hc0 : cond2_0 i)
    (x0 : Vec F S1024x11008 .bf16) (x1 : Vec F S256x11008 .i8) (x2 : Vec F S32x11008 .bf16) (x3 : Vec F S1024x512 .bf16) (x4 : Vec F S1024x512 .i8) (x5 : Vec F S512x64 .bf16) (x6 : Vec F S1024x64 .bf16) (y : S512x64.Idx) :
    ∃ pc ∈ (kernelRun2_A c i arg1 harg1 arg2 harg2 arg3 harg3 arg4 harg4 arg5 harg5 arg6 harg6 arg7 harg7 arg8 harg8 arg9 harg9 arg10 harg10 arg11 harg11 hc0 x0 x1 x2 x3 x4 x5 x6).2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 x0 x1 x2 x3 x4 x5 x6).2.1 S512x64.size (by sl_kernel_rfl) y

/-- What case A leaves in output 8's staging buffer: its pieces read back over junk. -/
def out2_A_8 (c : Dev nD) (i : grid2.Coords) (arg1 : Memref sig .tc .vmem S1024x11008 .bf16) (harg1 : arg1.IsWhole) (arg2 : Memref sig .tc .vmem S256x11008 .i8) (harg2 : arg2.IsWhole) (arg3 : Memref sig .tc .vmem S32x11008 .bf16) (harg3 : arg3.IsWhole) (arg4 : Memref sig .tc .vmem S1024x512 .bf16) (harg4 : arg4.IsWhole) (arg5 : Memref sig .tc .vmem S1024x512 .i8) (harg5 : arg5.IsWhole) (arg6 : Memref sig .tc .vmem S512x64 .bf16) (harg6 : arg6.IsWhole) (arg7 : Memref sig .tc .vmem S1024x64 .bf16) (harg7 : arg7.IsWhole) (arg8 : Memref sig .tc .vmem S1024x512 .bf16) (harg8 : arg8.IsWhole) (arg9 : Memref sig .tc .vmem S512x64 .f32) (harg9 : arg9.IsWhole) (arg10 : Memref sig .tc .vmem S32x11008 .f32) (harg10 : arg10.IsWhole) (arg11 : Memref sig .tc .vmem S512x11008 .bf16) (harg11 : arg11.IsWhole) (hc0 : cond2_0 i)
    (x0 : Vec F S1024x11008 .bf16) (x1 : Vec F S256x11008 .i8) (x2 : Vec F S32x11008 .bf16) (x3 : Vec F S1024x512 .bf16) (x4 : Vec F S1024x512 .i8) (x5 : Vec F S512x64 .bf16) (x6 : Vec F S1024x64 .bf16) : Vec F S512x64 .f32 :=
  VO2_8.read (Elt F) (VO2_8.writes (Elt F) VO2_8.junk (kernelRun2_A c i arg1 harg1 arg2 harg2 arg3 harg3 arg4 harg4 arg5 harg5 arg6 harg6 arg7 harg7 arg8 harg8 arg9 harg9 arg10 harg10 arg11 harg11 hc0 x0 x1 x2 x3 x4 x5 x6).2.1)

/-- Case A's pieces for scratch `arg10`, which the kernel carries between points, cover it: 1 piece of `S32x11008` tiling it (Lib/Ring.lean `Piece.tiledL`). -/
theorem scover2_A_0 (c : Dev nD) (i : grid2.Coords) (arg1 : Memref sig .tc .vmem S1024x11008 .bf16) (harg1 : arg1.IsWhole) (arg2 : Memref sig .tc .vmem S256x11008 .i8) (harg2 : arg2.IsWhole) (arg3 : Memref sig .tc .vmem S32x11008 .bf16) (harg3 : arg3.IsWhole) (arg4 : Memref sig .tc .vmem S1024x512 .bf16) (harg4 : arg4.IsWhole) (arg5 : Memref sig .tc .vmem S1024x512 .i8) (harg5 : arg5.IsWhole) (arg6 : Memref sig .tc .vmem S512x64 .bf16) (harg6 : arg6.IsWhole) (arg7 : Memref sig .tc .vmem S1024x64 .bf16) (harg7 : arg7.IsWhole) (arg8 : Memref sig .tc .vmem S1024x512 .bf16) (harg8 : arg8.IsWhole) (arg9 : Memref sig .tc .vmem S512x64 .f32) (harg9 : arg9.IsWhole) (arg10 : Memref sig .tc .vmem S32x11008 .f32) (harg10 : arg10.IsWhole) (arg11 : Memref sig .tc .vmem S512x11008 .bf16) (harg11 : arg11.IsWhole) (hc0 : cond2_0 i)
    (x0 : Vec F S1024x11008 .bf16) (x1 : Vec F S256x11008 .i8) (x2 : Vec F S32x11008 .bf16) (x3 : Vec F S1024x512 .bf16) (x4 : Vec F S1024x512 .i8) (x5 : Vec F S512x64 .bf16) (x6 : Vec F S1024x64 .bf16) (y : S32x11008.Idx) :
    ∃ pc ∈ (kernelRun2_A c i arg1 harg1 arg2 harg2 arg3 harg3 arg4 harg4 arg5 harg5 arg6 harg6 arg7 harg7 arg8 harg8 arg9 harg9 arg10 harg10 arg11 harg11 hc0 x0 x1 x2 x3 x4 x5 x6).2.2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 x0 x1 x2 x3 x4 x5 x6).2.2.1 S32x11008.size (by sl_kernel_rfl) y

/-- What case A leaves in scratch `arg10`: its pieces read back over junk. -/
def sout2_A_0 (c : Dev nD) (i : grid2.Coords) (arg1 : Memref sig .tc .vmem S1024x11008 .bf16) (harg1 : arg1.IsWhole) (arg2 : Memref sig .tc .vmem S256x11008 .i8) (harg2 : arg2.IsWhole) (arg3 : Memref sig .tc .vmem S32x11008 .bf16) (harg3 : arg3.IsWhole) (arg4 : Memref sig .tc .vmem S1024x512 .bf16) (harg4 : arg4.IsWhole) (arg5 : Memref sig .tc .vmem S1024x512 .i8) (harg5 : arg5.IsWhole) (arg6 : Memref sig .tc .vmem S512x64 .bf16) (harg6 : arg6.IsWhole) (arg7 : Memref sig .tc .vmem S1024x64 .bf16) (harg7 : arg7.IsWhole) (arg8 : Memref sig .tc .vmem S1024x512 .bf16) (harg8 : arg8.IsWhole) (arg9 : Memref sig .tc .vmem S512x64 .f32) (harg9 : arg9.IsWhole) (arg10 : Memref sig .tc .vmem S32x11008 .f32) (harg10 : arg10.IsWhole) (arg11 : Memref sig .tc .vmem S512x11008 .bf16) (harg11 : arg11.IsWhole) (hc0 : cond2_0 i)
    (x0 : Vec F S1024x11008 .bf16) (x1 : Vec F S256x11008 .i8) (x2 : Vec F S32x11008 .bf16) (x3 : Vec F S1024x512 .bf16) (x4 : Vec F S1024x512 .i8) (x5 : Vec F S512x64 .bf16) (x6 : Vec F S1024x64 .bf16) : Vec F S32x11008 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 arg10 harg10 arg11 harg11 hc0 x0 x1 x2 x3 x4 x5 x6).2.2.1)

-- (the run's proof term is large: the definition's epilogue — `abstractNestedProofs` — walks it past the default budget)
set_option maxHeartbeats 5596000 in
/-- What the body's stores leave in each output's staging memref, as pieces (last first) IN CASE B (`scf.if` 0 not taken: points 1, 2, … 7: 7 of 8), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_B (c : Dev nD) (i : grid2.Coords) (arg1 : Memref sig .tc .vmem S1024x11008 .bf16) (harg1 : arg1.IsWhole) (arg2 : Memref sig .tc .vmem S256x11008 .i8) (harg2 : arg2.IsWhole) (arg3 : Memref sig .tc .vmem S32x11008 .bf16) (harg3 : arg3.IsWhole) (arg4 : Memref sig .tc .vmem S1024x512 .bf16) (harg4 : arg4.IsWhole) (arg5 : Memref sig .tc .vmem S1024x512 .i8) (harg5 : arg5.IsWhole) (arg6 : Memref sig .tc .vmem S512x64 .bf16) (harg6 : arg6.IsWhole) (arg7 : Memref sig .tc .vmem S1024x64 .bf16) (harg7 : arg7.IsWhole) (arg8 : Memref sig .tc .vmem S1024x512 .bf16) (harg8 : arg8.IsWhole) (arg9 : Memref sig .tc .vmem S512x64 .f32) (harg9 : arg9.IsWhole) (arg10 : Memref sig .tc .vmem S32x11008 .f32) (harg10 : arg10.IsWhole) (arg11 : Memref sig .tc .vmem S512x11008 .bf16) (harg11 : arg11.IsWhole) (hc0 : ¬cond2_0 i)
    (x0 : Vec F S1024x11008 .bf16) (x1 : Vec F S256x11008 .i8) (x2 : Vec F S32x11008 .bf16) (x3 : Vec F S1024x512 .bf16) (x4 : Vec F S1024x512 .i8) (x5 : Vec F S512x64 .bf16) (x6 : Vec F S1024x64 .bf16) (xs0 : Vec F S32x11008 .f32) :
    Σ' (L7 : List (View.Piece (Elt F) S1024x512 .bf16)), Σ' (L8 : List (View.Piece (Elt F) S512x64 .f32)), Σ' (LS0 : List (View.Piece (Elt F) S32x11008 .f32)), { LT1 : List (View.Piece (Elt F) S512x11008 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare xs0 ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ owns (c : Thread nD τ) arg10 fullShare xs0 ∗ (∃ f, arg11.view.loc (c : Thread nD τ) ↦[arg11.view.set]{fullShare} arg11.view.writes (Elt F) f LT1)) -∗ K ⟨⟩))
          ⊢ wp frame (wpE (defs₀ (F := F)) Variants.none c none) E (cc2_dx i arg1 harg1 arg2 harg2 arg3 harg3 arg4 harg4 arg5 harg5 arg6 harg6 arg7 harg7 arg8 harg8 arg9 harg9 arg10 harg10 arg11 harg11) K } := by
  refine ⟨?_, ?_, [], ?_, fun E K => ?run⟩
  case run =>
    simp only [cc2_dx_eq_skeleton]; unfold cc2_dx_skel
    simp only [k2_part66_eq_skeleton, k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton, k2_part16_eq_skeleton, k2_part17_eq_skeleton, k2_part18_eq_skeleton, k2_part19_eq_skeleton, k2_part20_eq_skeleton, k2_part21_eq_skeleton, k2_part22_eq_skeleton, k2_part23_eq_skeleton, k2_part24_eq_skeleton, k2_part25_eq_skeleton, k2_part26_eq_skeleton, k2_part27_eq_skeleton, k2_part28_eq_skeleton, k2_part29_eq_skeleton, k2_part30_eq_skeleton, k2_part31_eq_skeleton, k2_part32_eq_skeleton, k2_part33_eq_skeleton, k2_part34_eq_skeleton, k2_part35_eq_skeleton, k2_part36_eq_skeleton, k2_part37_eq_skeleton, k2_part38_eq_skeleton, k2_part39_eq_skeleton, k2_part40_eq_skeleton, k2_part41_eq_skeleton, k2_part42_eq_skeleton, k2_part43_eq_skeleton, k2_part44_eq_skeleton, k2_part45_eq_skeleton, k2_part46_eq_skeleton, k2_part47_eq_skeleton, k2_part48_eq_skeleton, k2_part49_eq_skeleton, k2_part50_eq_skeleton, k2_part51_eq_skeleton, k2_part52_eq_skeleton, k2_part53_eq_skeleton, k2_part54_eq_skeleton, k2_part55_eq_skeleton, k2_part56_eq_skeleton, k2_part57_eq_skeleton, k2_part58_eq_skeleton, k2_part59_eq_skeleton, k2_part60_eq_skeleton, k2_part61_eq_skeleton, k2_part62_eq_skeleton, k2_part63_eq_skeleton, k2_part64_eq_skeleton, k2_part65_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [HS0]
    · iexists _; isplitr; · ipureintro; exact harg10.read_unread _
      iexact HS0
    iexists _; iexact HS1

/-- Case B's pieces for output 7 tile its block (1 store of `S1024x512`, checked by the kernel's evaluation: Lib/Ring.lean `Piece.tiledL`, linear in the pieces, through a loop's `@[irreducible]` trip theorem too), so they cover it. -/
theorem cover2_B_7 (c : Dev nD) (i : grid2.Coords) (arg1 : Memref sig .tc .vmem S1024x11008 .bf16) (harg1 : arg1.IsWhole) (arg2 : Memref sig .tc .vmem S256x11008 .i8) (harg2 : arg2.IsWhole) (arg3 : Memref sig .tc .vmem S32x11008 .bf16) (harg3 : arg3.IsWhole) (arg4 : Memref sig .tc .vmem S1024x512 .bf16) (harg4 : arg4.IsWhole) (arg5 : Memref sig .tc .vmem S1024x512 .i8) (harg5 : arg5.IsWhole) (arg6 : Memref sig .tc .vmem S512x64 .bf16) (harg6 : arg6.IsWhole) (arg7 : Memref sig .tc .vmem S1024x64 .bf16) (harg7 : arg7.IsWhole) (arg8 : Memref sig .tc .vmem S1024x512 .bf16) (harg8 : arg8.IsWhole) (arg9 : Memref sig .tc .vmem S512x64 .f32) (harg9 : arg9.IsWhole) (arg10 : Memref sig .tc .vmem S32x11008 .f32) (harg10 : arg10.IsWhole) (arg11 : Memref sig .tc .vmem S512x11008 .bf16) (harg11 : arg11.IsWhole) (hc0 : ¬cond2_0 i)
    (x0 : Vec F S1024x11008 .bf16) (x1 : Vec F S256x11008 .i8) (x2 : Vec F S32x11008 .bf16) (x3 : Vec F S1024x512 .bf16) (x4 : Vec F S1024x512 .i8) (x5 : Vec F S512x64 .bf16) (x6 : Vec F S1024x64 .bf16) (xs0 : Vec F S32x11008 .f32) (y : S1024x512.Idx) :
    ∃ pc ∈ (kernelRun2_B c i arg1 harg1 arg2 harg2 arg3 harg3 arg4 harg4 arg5 harg5 arg6 harg6 arg7 harg7 arg8 harg8 arg9 harg9 arg10 harg10 arg11 harg11 hc0 x0 x1 x2 x3 x4 x5 x6 xs0).1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 x0 x1 x2 x3 x4 x5 x6 xs0).1 S1024x512.size (by sl_kernel_rfl) y

/-- What case B leaves in output 7's staging buffer: its pieces read back over junk. -/
def out2_B_7 (c : Dev nD) (i : grid2.Coords) (arg1 : Memref sig .tc .vmem S1024x11008 .bf16) (harg1 : arg1.IsWhole) (arg2 : Memref sig .tc .vmem S256x11008 .i8) (harg2 : arg2.IsWhole) (arg3 : Memref sig .tc .vmem S32x11008 .bf16) (harg3 : arg3.IsWhole) (arg4 : Memref sig .tc .vmem S1024x512 .bf16) (harg4 : arg4.IsWhole) (arg5 : Memref sig .tc .vmem S1024x512 .i8) (harg5 : arg5.IsWhole) (arg6 : Memref sig .tc .vmem S512x64 .bf16) (harg6 : arg6.IsWhole) (arg7 : Memref sig .tc .vmem S1024x64 .bf16) (harg7 : arg7.IsWhole) (arg8 : Memref sig .tc .vmem S1024x512 .bf16) (harg8 : arg8.IsWhole) (arg9 : Memref sig .tc .vmem S512x64 .f32) (harg9 : arg9.IsWhole) (arg10 : Memref sig .tc .vmem S32x11008 .f32) (harg10 : arg10.IsWhole) (arg11 : Memref sig .tc .vmem S512x11008 .bf16) (harg11 : arg11.IsWhole) (hc0 : ¬cond2_0 i)
    (x0 : Vec F S1024x11008 .bf16) (x1 : Vec F S256x11008 .i8) (x2 : Vec F S32x11008 .bf16) (x3 : Vec F S1024x512 .bf16) (x4 : Vec F S1024x512 .i8) (x5 : Vec F S512x64 .bf16) (x6 : Vec F S1024x64 .bf16) (xs0 : Vec F S32x11008 .f32) : Vec F S1024x512 .bf16 :=
  VO2_7.read (Elt F) (VO2_7.writes (Elt F) VO2_7.junk (kernelRun2_B c i arg1 harg1 arg2 harg2 arg3 harg3 arg4 harg4 arg5 harg5 arg6 harg6 arg7 harg7 arg8 harg8 arg9 harg9 arg10 harg10 arg11 harg11 hc0 x0 x1 x2 x3 x4 x5 x6 xs0).1)

/-- Case B's pieces for output 8 tile its block (1 store of `S512x64`, checked by the kernel's evaluation: Lib/Ring.lean `Piece.tiledL`, linear in the pieces, through a loop's `@[irreducible]` trip theorem too), so they cover it. -/
theorem cover2_B_8 (c : Dev nD) (i : grid2.Coords) (arg1 : Memref sig .tc .vmem S1024x11008 .bf16) (harg1 : arg1.IsWhole) (arg2 : Memref sig .tc .vmem S256x11008 .i8) (harg2 : arg2.IsWhole) (arg3 : Memref sig .tc .vmem S32x11008 .bf16) (harg3 : arg3.IsWhole) (arg4 : Memref sig .tc .vmem S1024x512 .bf16) (harg4 : arg4.IsWhole) (arg5 : Memref sig .tc .vmem S1024x512 .i8) (harg5 : arg5.IsWhole) (arg6 : Memref sig .tc .vmem S512x64 .bf16) (harg6 : arg6.IsWhole) (arg7 : Memref sig .tc .vmem S1024x64 .bf16) (harg7 : arg7.IsWhole) (arg8 : Memref sig .tc .vmem S1024x512 .bf16) (harg8 : arg8.IsWhole) (arg9 : Memref sig .tc .vmem S512x64 .f32) (harg9 : arg9.IsWhole) (arg10 : Memref sig .tc .vmem S32x11008 .f32) (harg10 : arg10.IsWhole) (arg11 : Memref sig .tc .vmem S512x11008 .bf16) (harg11 : arg11.IsWhole) (hc0 : ¬cond2_0 i)
    (x0 : Vec F S1024x11008 .bf16) (x1 : Vec F S256x11008 .i8) (x2 : Vec F S32x11008 .bf16) (x3 : Vec F S1024x512 .bf16) (x4 : Vec F S1024x512 .i8) (x5 : Vec F S512x64 .bf16) (x6 : Vec F S1024x64 .bf16) (xs0 : Vec F S32x11008 .f32) (y : S512x64.Idx) :
    ∃ pc ∈ (kernelRun2_B c i arg1 harg1 arg2 harg2 arg3 harg3 arg4 harg4 arg5 harg5 arg6 harg6 arg7 harg7 arg8 harg8 arg9 harg9 arg10 harg10 arg11 harg11 hc0 x0 x1 x2 x3 x4 x5 x6 xs0).2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 x0 x1 x2 x3 x4 x5 x6 xs0).2.1 S512x64.size (by sl_kernel_rfl) y

/-- What case B leaves in output 8's staging buffer: its pieces read back over junk. -/
def out2_B_8 (c : Dev nD) (i : grid2.Coords) (arg1 : Memref sig .tc .vmem S1024x11008 .bf16) (harg1 : arg1.IsWhole) (arg2 : Memref sig .tc .vmem S256x11008 .i8) (harg2 : arg2.IsWhole) (arg3 : Memref sig .tc .vmem S32x11008 .bf16) (harg3 : arg3.IsWhole) (arg4 : Memref sig .tc .vmem S1024x512 .bf16) (harg4 : arg4.IsWhole) (arg5 : Memref sig .tc .vmem S1024x512 .i8) (harg5 : arg5.IsWhole) (arg6 : Memref sig .tc .vmem S512x64 .bf16) (harg6 : arg6.IsWhole) (arg7 : Memref sig .tc .vmem S1024x64 .bf16) (harg7 : arg7.IsWhole) (arg8 : Memref sig .tc .vmem S1024x512 .bf16) (harg8 : arg8.IsWhole) (arg9 : Memref sig .tc .vmem S512x64 .f32) (harg9 : arg9.IsWhole) (arg10 : Memref sig .tc .vmem S32x11008 .f32) (harg10 : arg10.IsWhole) (arg11 : Memref sig .tc .vmem S512x11008 .bf16) (harg11 : arg11.IsWhole) (hc0 : ¬cond2_0 i)
    (x0 : Vec F S1024x11008 .bf16) (x1 : Vec F S256x11008 .i8) (x2 : Vec F S32x11008 .bf16) (x3 : Vec F S1024x512 .bf16) (x4 : Vec F S1024x512 .i8) (x5 : Vec F S512x64 .bf16) (x6 : Vec F S1024x64 .bf16) (xs0 : Vec F S32x11008 .f32) : Vec F S512x64 .f32 :=
  VO2_8.read (Elt F) (VO2_8.writes (Elt F) VO2_8.junk (kernelRun2_B c i arg1 harg1 arg2 harg2 arg3 harg3 arg4 harg4 arg5 harg5 arg6 harg6 arg7 harg7 arg8 harg8 arg9 harg9 arg10 harg10 arg11 harg11 hc0 x0 x1 x2 x3 x4 x5 x6 xs0).2.1)

/-- Case B stores nothing into scratch `arg10`: it holds what the point before left. -/
def sout2_B_0 (c : Dev nD) (i : grid2.Coords) (arg1 : Memref sig .tc .vmem S1024x11008 .bf16) (harg1 : arg1.IsWhole) (arg2 : Memref sig .tc .vmem S256x11008 .i8) (harg2 : arg2.IsWhole) (arg3 : Memref sig .tc .vmem S32x11008 .bf16) (harg3 : arg3.IsWhole) (arg4 : Memref sig .tc .vmem S1024x512 .bf16) (harg4 : arg4.IsWhole) (arg5 : Memref sig .tc .vmem S1024x512 .i8) (harg5 : arg5.IsWhole) (arg6 : Memref sig .tc .vmem S512x64 .bf16) (harg6 : arg6.IsWhole) (arg7 : Memref sig .tc .vmem S1024x64 .bf16) (harg7 : arg7.IsWhole) (arg8 : Memref sig .tc .vmem S1024x512 .bf16) (harg8 : arg8.IsWhole) (arg9 : Memref sig .tc .vmem S512x64 .f32) (harg9 : arg9.IsWhole) (arg10 : Memref sig .tc .vmem S32x11008 .f32) (harg10 : arg10.IsWhole) (arg11 : Memref sig .tc .vmem S512x11008 .bf16) (harg11 : arg11.IsWhole) (hc0 : ¬cond2_0 i)
    (x0 : Vec F S1024x11008 .bf16) (x1 : Vec F S256x11008 .i8) (x2 : Vec F S32x11008 .bf16) (x3 : Vec F S1024x512 .bf16) (x4 : Vec F S1024x512 .i8) (x5 : Vec F S512x64 .bf16) (x6 : Vec F S1024x64 .bf16) (xs0 : Vec F S32x11008 .f32) : Vec F S32x11008 .f32 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before2_W_κ`). An assignment of the conditions no point meets is no case (`False.elim`). -/
def outsAt2 (c : Dev nD) : (n : ℕ) → n < cfg2.N → Vec F S1024x512 .bf16 × Vec F S512x64 .f32 × Vec F S32x11008 .f32
  | 0, hn => (out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩), out2_A_8 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩))
  | n + 1, hn =>
    if h0 : (n + 1) % 8 = 0 then
      (out2_A_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩), out2_A_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩))
    else
      (out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2, out2_B_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2)

/-- `outsAt2` at a point of case A: that case's contents. -/
theorem outsAt2_A (c : Dev nD) (t : Fin cfg2.N) (h0 : t.val % 8 = 0) :
    outsAt2 V c t.val t.isLt = (out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (iblk2 V c 0 t) (iblk2 V c 1 t) (iblk2 V c 2 t) (iblk2 V c 3 t) (iblk2 V c 4 t) (iblk2 V c 5 t) (iblk2 V c 6 t), out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (iblk2 V c 0 t) (iblk2 V c 1 t) (iblk2 V c 2 t) (iblk2 V c 3 t) (iblk2 V c 4 t) (iblk2 V c 5 t) (iblk2 V c 6 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (iblk2 V c 0 t) (iblk2 V c 1 t) (iblk2 V c 2 t) (iblk2 V c 3 t) (iblk2 V c 4 t) (iblk2 V c 5 t) (iblk2 V c 6 t)) := by
  obtain ⟨n, hn⟩ := t
  cases n with
  | zero => exact rfl
  | succ n => exact (dif_pos h0).trans rfl

/-- `outsAt2` at a point of case B: that case's contents, over what the point before left. -/
theorem outsAt2_B (c : Dev nD) (t : Fin cfg2.N) (h0 : ¬t.val % 8 = 0) :
    outsAt2 V c t.val t.isLt = (out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2, out2_B_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt2`'s scratch components), the others at anything, and the generator register
    at some state. -/
def PhiS2 (c : Dev nD) : (n : ℕ) → n ≤ cfg2.N → sProp 𝕄
  | 0, _ => Pipeline.ΦA spec2 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ owns (c : Thread nD τ) scM2_0 fullShare ((outsAt2 V c n hn).2.2) ∗ (∃ d, owns (c : Thread nD τ) scM2_1 fullShare d)) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the carried scratch at that point's contents. -/
theorem PhiS2_succ (c : Dev nD) (n : ℕ) (hn : n < cfg2.N) :
    PhiS2 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ owns (c : Thread nD τ) scM2_0 fullShare ((outsAt2 V c n hn).2.2) ∗ (∃ d, owns (c : Thread nD τ) scM2_1 fullShare d)) ∗ (∃ r, prngReg c r)) := rfl

/-- Before a point that is not the first: the carried scratch at what the point before left. -/
theorem PhiS2_pos (c : Dev nD) (n : ℕ) (h : n ≤ cfg2.N) (hz : n ≠ 0) :
    PhiS2 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ owns (c : Thread nD τ) scM2_0 fullShare ((outsAt2 V c (n - 1) (by omega)).2.2) ∗ (∃ d, owns (c : Thread nD τ) scM2_1 fullShare d)) ∗ (∃ r, prngReg c r)) := by
  cases n with
  | zero => exact absurd rfl hz
  | succ n => rfl

/-! ## The pipeline's proof data -/

/-- The proof data of pipeline 2 on core `c`: the arrays as the region finds them (`V`); after the body at
    point `t` each input's buffer at its block and the outputs' at `outsAt2`; the invariant the class's
    (`PhiS2`: the class's `ΦA` before the first point, then the scoped rest with the carried scratch at `outsAt2`'s component);
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => (outsAt2 V c t.val t.isLt).1
    | ⟨8, _⟩ => (outsAt2 V c t.val t.isLt).2.1
  Φ t := PhiS2 V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- The invariant at a point's start (the proof data at `t.castSucc`), restated at `t.val`. -/
theorem PhiS2_castSucc (c : Dev nD) (t : Fin cfg2.N) :
    (dat2 V c).Φ t.castSucc = PhiS2 V c t.val (Nat.le_of_lt t.isLt) := by
  dsimp only [dat2]; exact Pipeline.Dat.Φ_castSucc (PhiS2 V c) t

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = (outsAt2 V c t.val t.isLt).1 := by dsimp only [dat2]
theorem after2_8 (c : Dev nD) (t : Fin cfg2.N) : (dat2 V c).after 8 t = (outsAt2 V c t.val t.isLt).2.1 := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t)
    ∗ owns (c : Thread nD τ) (ms2_8 t) fullShare ((dat2 V c).after 8 t))

set_option maxHeartbeats 6400000 in
/-- The body at any point: the inputs' memrefs hold their blocks (`before2_W`); the closed forms say which case the point is in (`by_cases`), an output the case reads before covering holds what the point before left (`before2_W_κ`); so the
    run applies; the invariant hands the body the carried scratch at what the point before left (`PhiS2_pos`; at anything at the first point, `PhiS2_zero`), the other scratch buffers and the generator register at some state, and takes the carried scratch back at this point's contents (`PhiS2_succ`, by `scoverK_κ_N`); the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl,
    after2_0, after2_1, after2_2, after2_3, after2_4, after2_5, after2_6, after2_7, after2_8]
  rw [show (dat2 V c).Φ t.succ = PhiS2 V c (t.val + 1) t.isLt from rfl, PhiS2_succ]
  have hN : t.val < 8 := lt_of_lt_of_eq t.isLt (show cfg2.N = 8 from N_2)
  by_cases h0 : t.val % 8 = 0
  · by_cases hz : t.val = 0
    · rw [PhiS2_castSucc V c t, PhiS2_zero V c _ _ hz, PhiA2_eq]
      rw [outsAt2_A V c t h0]
      unfold out2_A_7 out2_A_8 sout2_A_0; (try dsimp only)
      iintro ⟨⟨⟨HR0, HR1, HR2, HR3, HR4, HR5, HR6, HR7, HR8, HR9, HR10, HR11, HR12, HR13, HR14, HR15, HR16, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_A c (grid2.coords t) _ _ _ _ _ _ _ _ _ _ _ _ _ _ _ _ _ _ _ _ _ _ ((hcond2_0 t).mpr h0) (iblk2 V c 0 t) (iblk2 V c 1 t) (iblk2 V c 2 t) (iblk2 V c 3 t) (iblk2 V c 4 t) (iblk2 V c 5 t) (iblk2 V c 6 t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      iintro ⟨H0, H1, H2, H3, H4, H5, H6, ⟨%e7, H7⟩, ⟨%e8, H8⟩, ⟨%es0, HS0⟩, ⟨%fT1, HS1⟩⟩
      isplitl [HR0 HR1 HR2 HR3 HR4 HR5 HR6 HR7 HR8 HR9 HR10 HR11 HR12 HR13 HR14 HR15 HR16 HS0 HS1 Hg]
      · isplitl [HR0 HR1 HR2 HR3 HR4 HR5 HR6 HR7 HR8 HR9 HR10 HR11 HR12 HR13 HR14 HR15 HR16 HS0 HS1]
        · isplitl [HR0]
          · iexact HR0
          isplitl [HR1]
          · iexact HR1
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HR8]
          · iexact HR8
          isplitl [HR9]
          · iexact HR9
          isplitl [HR10]
          · iexact HR10
          isplitl [HR11]
          · iexact HR11
          isplitl [HR12]
          · iexact HR12
          isplitl [HR13]
          · iexact HR13
          isplitl [HR14]
          · iexact HR14
          isplitl [HR15]
          · iexact HR15
          isplitl [HR16]
          · iexact HR16
          isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _ _ _ _ _ _ _)
          iexists _; unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover2_A_7 c _ _ _ _ _ _ _ _ _ _ _ _ _ _ _ _ _ _ _ _ _ _ _ _ _ _ _ _ _ _ _)
      unfold owns; iexists _; isplitr
      swap; · iexact H8
      ipureintro; exact View.read_writes_of_cover _ _ _ _ _ (cover2_A_8 c _ _ _ _ _ _ _ _ _ _ _ _ _ _ _ _ _ _ _ _ _ _ _ _ _ _ _ _ _ _ _)
    · exfalso; have hN : t.val < 8 := lt_of_lt_of_eq t.isLt (show cfg2.N = 8 from N_2); omega
  · by_cases hz : t.val = 0
    · exfalso; have hN : t.val < 8 := lt_of_lt_of_eq t.isLt (show cfg2.N = 8 from N_2); omega
    · rw [PhiS2_castSucc V c t, PhiS2_pos V c _ _ hz]
      rw [outsAt2_B V c t h0]
      unfold out2_B_7 out2_B_8 sout2_B_0; (try dsimp only)
      iintro ⟨⟨⟨HR0, HR1, HR2, HR3, HR4, HR5, HR6, HR7, HR8, HR9, HR10, HR11, HR12, HR13, HR14, HR15, HR16, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_B c (grid2.coords t) _ _ _ _ _ _ _ _ _ _ _ _ _ _ _ _ _ _ _ _ _ _ (fun h => h0 ((hcond2_0 t).mp h)) (iblk2 V c 0 t) (iblk2 V c 1 t) (iblk2 V c 2 t) (iblk2 V c 3 t) (iblk2 V c 4 t) (iblk2 V c 5 t) (iblk2 V c 6 t) _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      iintro ⟨H0, H1, H2, H3, H4, H5, H6, ⟨%e7, H7⟩, ⟨%e8, H8⟩, HS0, ⟨%fT1, HS1⟩⟩
      isplitl [HR0 HR1 HR2 HR3 HR4 HR5 HR6 HR7 HR8 HR9 HR10 HR11 HR12 HR13 HR14 HR15 HR16 HS0 HS1 Hg]
      · isplitl [HR0 HR1 HR2 HR3 HR4 HR5 HR6 HR7 HR8 HR9 HR10 HR11 HR12 HR13 HR14 HR15 HR16 HS0 HS1]
        · isplitl [HR0]
          · iexact HR0
          isplitl [HR1]
          · iexact HR1
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HR8]
          · iexact HR8
          isplitl [HR9]
          · iexact HR9
          isplitl [HR10]
          · iexact HR10
          isplitl [HR11]
          · iexact HR11
          isplitl [HR12]
          · iexact HR12
          isplitl [HR13]
          · iexact HR13
          isplitl [HR14]
          · iexact HR14
          isplitl [HR15]
          · iexact HR15
          isplitl [HR16]
          · iexact HR16
          isplitl [HS0]
          · iexact HS0
          iexists _; unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover2_B_7 c _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover2_B_8 c _ _ _ _ _ _ _ _ _ _ _ _ _ _ _ _ _ _ _ _ _ _ _ _ _ _ _ _ _ _ _ _)

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-- What the launch hands the region (`ΦA`) is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives `ΦA` back: the carried scratch's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HR0, HR1, HR2, HR3, HR4, HR5, HR6, HR7, HR8, HR9, HR10, HR11, HR12, HR13, HR14, HR15, HR16, HS0, HS1⟩, Hg⟩
  isplitl [HR0 HR1 HR2 HR3 HR4 HR5 HR6 HR7 HR8 HR9 HR10 HR11 HR12 HR13 HR14 HR15 HR16 HS0 HS1]
  · isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    isplitl [HR11]
    · iexact HR11
    isplitl [HR12]
    · iexact HR12
    isplitl [HR13]
    · iexact HR13
    isplitl [HR14]
    · iexact HR14
    isplitl [HR15]
    · iexact HR15
    isplitl [HR16]
    · iexact HR16
    isplitl [HS0]
    · iexists _; iexact HS0
    iexact HS1
  iexact Hg

/-- The same after the last point. -/
theorem hout2 (c : Dev nD) : (dat2 V c).Φ (Fin.last cfg2.N) ⊢ Pipeline.ΦA spec2 c :=
  Phi_out2 V c _ (by rw [Fin.val_last]; have : cfg2.N = 8 := N_2; omega)

end Regions

end Cert.KernelIdeal.Own

end
-- ==== Proof.Ideal.Hosts0.lean ====
/- The host stretches of @main: what each writes, and that it writes no argument. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v6, main_v7, main_v8]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

end Cert.KernelIdeal.Own

end
-- ==== Proof.Ideal.Fold0.lean ====
/- The buffer contents at each boundary of @main: a fold through the host stretches and the three calls. -/
module

public import proofs.«01_k».proof.Proof.Ideal.Region0
public import proofs.«01_k».proof.Proof.Ideal.Region1
public import proofs.«01_k».proof.Proof.Ideal.Region2
public import proofs.«01_k».proof.Proof.Ideal.Hosts0

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`) (region 2's entry). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- A reference that is none of region 2's OUTPUT arrays keeps its entry contents across it: an input window's
    array is never written back (`Dat.arrAt_in`, `A_eq2`); any other buffer is left as is. -/
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After `hostOps3`. -/
abbrev W5 : Dev nD → Valuation τ sig (Elt F) := fun c => StableHlo.after hostOps3 (W4 m ρ c)
/-- A reference `hostOps3` does not write keeps its contents across it. -/
theorem W5_of (c : Dev nD) (r : Ref sig .tc) (h : r ∉ hostOps3_W) : W5 m ρ c (Proc.devRef .tc r) = W4 m ρ c (Proc.devRef .tc r) :=
  StableHlo.after_of_writes_sub hostOps3 _ hostOps3_writes h
theorem W5_args (c : Dev nD) : ∀ a ∈ argRefs, W5 m ρ c (Proc.devRef .tc a) = m ((c : Thread nD τ).loc a) :=
  fun a ha => (W5_of m ρ c a (hostOps3_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
theorem W5_main_arg5 (c : Dev nD) : W5 m ρ c (Proc.devRef .tc main_arg5) = m ((c : Thread nD τ).loc main_arg5) :=
  W5_args m ρ c main_arg5 (by decide)
theorem W5_main_arg6 (c : Dev nD) : W5 m ρ c (Proc.devRef .tc main_arg6) = m ((c : Thread nD τ).loc main_arg6) :=
  W5_args m ρ c main_arg6 (by decide)
end Cert.KernelIdeal.Own

end
-- ==== Proof.Ideal.State.lean ====
/- The three calls' proof data as one family, and the state a core carries through @main. -/
module

public import proofs.«01_k».proof.Proof.Ideal.Fold0

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

end Cert.KernelIdeal.Own

end
-- ==== Proof.Ideal.Record0.lean ====
/- The first call as a segment of @main. -/
module

public import proofs.«01_k».proof.Proof.Ideal.State

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans (Q := Pipeline.ΦA spec0 c) ?_ (hin0 (V1 m ρ) c)
    unfold Pipeline.ΦA
    iintro ⟨Hp, -, Hr⟩
    isplitl [Hr]; · iexact Hr
    iexact Hp
  hout c := by
    rw [Pipeline.ownSems0_none]
    refine BI.Laws.entails_trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Own

end
-- ==== Proof.Ideal.Record1.lean ====
/- The second call as a segment of @main. -/
module

public import proofs.«01_k».proof.Proof.Ideal.State

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans (Q := Pipeline.ΦA spec1 c) ?_ (hin1 (V2 m ρ) c)
    unfold Pipeline.ΦA
    iintro ⟨Hp, -, Hr⟩
    isplitl [Hr]; · iexact Hr
    iexact Hp
  hout c := by
    rw [Pipeline.ownSems0_none]
    refine BI.Laws.entails_trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Own

end
-- ==== Proof.Ideal.Record2.lean ====
/- The third call as a segment of @main. -/
module

public import proofs.«01_k».proof.Proof.Ideal.State

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans (Q := Pipeline.ΦA spec2 c) ?_ (hin2 (V3 m ρ) c)
    unfold Pipeline.ΦA
    iintro ⟨Hp, -, Hr⟩
    isplitl [Hr]; · iexact Hr
    iexact Hp
  hout c := by
    rw [Pipeline.ownSems0_none]
    refine BI.Laws.entails_trans (hout2 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Own

end
-- ==== Proof.Ideal.Frame.lean ====
/- The frame of the whole program: @main as its five segments, the launch over them, and the final contents of every unscoped buffer. -/
module

public import proofs.«01_k».proof.Proof.Ideal.Record0
public import proofs.«01_k».proof.Proof.Ideal.Record1
public import proofs.«01_k».proof.Proof.Ideal.Record2

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: at the compiled mesh, from any memory with zero counters, every weakly fair execution of @main on the
    TensorCores terminates, nothing faulting, and every final state has each unscoped buffer at the last boundary's contents
    `W5` and every semaphore counter of the machine at zero: the kit's launch over the segments, the last thread state read
    against the final state (`pointsTo_read_all`); the kit shows every counter at zero except the TensorCores' unscoped ones,
    of which there are none. -/
theorem ends : θ_run defs (onTc (τ := τ) (main (F := F))) ⟨m, fun _ => 0, ρ⟩ (fun r => (∀ c : Dev nD,
      ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The frame, at any float values: the run ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)  :=
  (θ_run defs _ _).mono (fun _ h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c),
       (h.1 c _ (mem_uc main_arg4 (by decide))).trans (W5_main_arg4 m ρ c),
       (h.1 c _ (mem_uc main_arg5 (by decide))).trans (W5_main_arg5 m ρ c),
       (h.1 c _ (mem_uc main_arg6 (by decide))).trans (W5_main_arg6 m ρ c)⟩, h.2⟩) (ends m ρ)

end Cert.KernelIdeal.Own

end
-- ==== Proof.Twin.lean ====
/- The printed kernel and the one printed over the extended reals are one program: read over the machine's words, the two
   texts unfold to the same functions, the same windows and the same @main. The frame, proved for the second at any float
   values, is then the first's. -/
module

public import proofs.«01_k».proof.Defs
public import proofs.«01_k».proof.Proof.Ideal.Frame
public import proofs.«01_k».proof.Proof.Gen.Kernel

@[expose] public section

set_option maxRecDepth 65536

noncomputable section

namespace Cert.Kernel.Own

open Idealize.ShloMosaic Idealize.SL.Sem

/-- The first call's function. -/
theorem cc0_eq : @Cert.Kernel.cc0_xa Bits _ _ = @Cert.KernelIdeal.cc0_xa Bits _ _ := by with_unfolding_all rfl
/-- The second call's function. -/
theorem cc1_eq : @Cert.Kernel.cc1_g_db Bits _ _ = @Cert.KernelIdeal.cc1_g_db Bits _ _ := by with_unfolding_all rfl
/-- The third call's function. -/
theorem cc2_eq : @Cert.Kernel.cc2_dx Bits _ _ = @Cert.KernelIdeal.cc2_dx Bits _ _ := by with_unfolding_all rfl
/-- The host's program. -/
theorem main_eq : Cert.Kernel.main (F := Bits) = Cert.KernelIdeal.main (F := Bits) := by with_unfolding_all rfl

set_option maxHeartbeats 8000000 in
/-- The functions' table. -/
theorem defs₀_eq : Cert.Kernel.defs₀ (F := Bits) = Cert.KernelIdeal.defs₀ (F := Bits) := by
  unfold Cert.Kernel.defs₀ Cert.KernelIdeal.defs₀
  rw [cc0_eq, cc1_eq, cc2_eq]
  congr 1
  funext l a
  match l, a with
  | 0, a => with_unfolding_all rfl
  | 1, a => with_unfolding_all rfl
  | 2, a => with_unfolding_all rfl
/-- The table with the pipelines' own functions. -/
theorem defs_eq : Cert.Kernel.defs (F := Bits) = Cert.KernelIdeal.defs (F := Bits) :=
  congrArg (Pipeline.defs (Cert.KernelIdeal.pcfgs (F := Bits))) defs₀_eq

/-- The printed kernel's frame. -/
theorem frame : Cert.quiescent_Kernel := by
  intro m g _
  rw [defs_eq, main_eq]
  exact Cert.KernelIdeal.Own.frame (F := Bits) m g

end Cert.Kernel.Own

end
-- ==== Proof.Terms.lean ====
/- The reference's five results as terms of its arguments, in named parts, over the extended reals. -/
module

public import proofs.«01_k».proof.Proof.Gen.ReferenceIdeal
public import Idealize.ShloMosaic.Lib.Pointwise

@[expose] public section

set_option maxRecDepth 16384

noncomputable section

namespace Cert.Terms

open Idealize.ShloMosaic Idealize.ShloMosaic.TcCoe
open Cert.ReferenceIdeal Cert.ReferenceIdeal.Gen

/-- The dropout mask as floats. -/
def KEEP (k : Vec Ideal S1024x4096 .i8) : FVec Ideal S1024x4096 .f32 :=
  sitofp .f32 (extui 32 k natLt_8_32)
/-- The dropped input: `x * keep / keep_prob`. -/
def XD (x : FVec Ideal S1024x4096 .bf16) (k : Vec Ideal S1024x4096 .i8) : FVec Ideal S1024x4096 .bf16 :=
  truncf .bf16 (Host.divf (mulf (extf .f32 x bitsLt_bf16_f32) (KEEP k))
    (broadcastInDim S1024x4096 ![] bcast_S_S1024x4096 (constant S_ .f32 0x3F666666#32))) bitsLt_bf16_f32
/-- `xa = dropped(x) · A`. -/
def XA (x : FVec Ideal S1024x4096 .bf16) (k : Vec Ideal S1024x4096 .i8) (a : FVec Ideal S4096x64 .bf16) : FVec Ideal S1024x64 .bf16 :=
  truncf .bf16 (Host.dotGeneral dot_S1024x4096_S4096x64_S1024x64_1_0_0_1_n_n none (XD x k) a : FVec Ideal S1024x64 .f32) bitsLt_bf16_f32
/-- `g = dy · Bᵀ`. -/
def GG (dy : FVec Ideal S1024x11008 .bf16) (b : FVec Ideal S64x11008 .bf16) : FVec Ideal S1024x64 .bf16 :=
  truncf .bf16 (Host.dotGeneral dot_S1024x11008_S64x11008_S1024x64_1_1_0_0_n_n none dy b : FVec Ideal S1024x64 .f32) bitsLt_bf16_f32
/-- `dB = scaling * xaᵀ · dy`. -/
def DB (xa : FVec Ideal S1024x64 .bf16) (dy : FVec Ideal S1024x11008 .bf16) : FVec Ideal S64x11008 .f32 :=
  mulf (broadcastInDim S64x11008 ![] bcast_S_S64x11008 (constant S_ .f32 0x3E800000#32))
    (Host.dotGeneral dot_S1024x64_S1024x11008_S64x11008_0_0_1_1_n_n none xa dy)
/-- `dA = scaling * dropped(x)ᵀ · g`. -/
def DA (x : FVec Ideal S1024x4096 .bf16) (k : Vec Ideal S1024x4096 .i8) (g : FVec Ideal S1024x64 .bf16) : FVec Ideal S4096x64 .f32 :=
  mulf (broadcastInDim S4096x64 ![] bcast_S_S4096x64 (constant S_ .f32 0x3E800000#32))
    (Host.dotGeneral dot_S1024x4096_S1024x64_S4096x64_0_0_1_1_n_n none (XD x k) g)
/-- The codes' values: a nibble of 8 or more stands for itself less 16. -/
def CODE (v : IVec S2048x11008 32) : FVec Ideal S2048x11008 .bf16 :=
  sitofp .bf16 (select (cmpi .sge v (broadcastInDim S2048x11008 ![] bcast_S_S2048x11008 (constantI S_ 32 8#32)))
    (subi v (broadcastInDim S2048x11008 ![] bcast_S_S2048x11008 (constantI S_ 32 16#32))) v)
/-- Codes times their groups' scales. -/
def SCALED (codes : FVec Ideal S2048x11008 .bf16) (s : FVec Ideal S32x11008 .bf16) : FVec Ideal S2048x11008 .bf16 :=
  shapeCast _ (mulf (shapeCast _ codes shapeCasts_S2048x11008_S32x64x11008)
    (broadcastInDim S32x64x11008 ![0, 1, 2] bcast_S32x1x11008_S32x64x11008_0_1_2
      (broadcastInDim S32x1x11008 ![0, 2] bcast_S32x11008_S32x1x11008_0_2 s))) shapeCasts_S32x64x11008_S2048x11008
/-- The even rows of the weights: the packed bytes' low nibbles. -/
def WLO (w : Vec Ideal S2048x11008 .i8) (s : FVec Ideal S32x11008 .bf16) : FVec Ideal S2048x11008 .bf16 :=
  SCALED (CODE (andi (extui 32 w natLt_8_32) (broadcastInDim S2048x11008 ![] bcast_S_S2048x11008 (constantI S_ 32 15#32)))) s
/-- The odd rows of the weights: the packed bytes' high nibbles. -/
def WHI (w : Vec Ideal S2048x11008 .i8) (s : FVec Ideal S32x11008 .bf16) : FVec Ideal S2048x11008 .bf16 :=
  SCALED (CODE (Host.shrsi (extui 32 w natLt_8_32) (broadcastInDim S2048x11008 ![] bcast_S_S2048x11008 (constantI S_ 32 4#32)))) s
/-- `dy · Wᵀ` by one half of the weights' rows. -/
def HALF (dy : FVec Ideal S1024x11008 .bf16) (w : FVec Ideal S2048x11008 .bf16) : FVec Ideal S1024x2048 .f32 :=
  Host.dotGeneral dot_S1024x11008_S2048x11008_S1024x2048_1_1_0_0_n_n none dy w
/-- `dy · Wᵀ`: the even and the odd columns interleaved. -/
def BASE (dy : FVec Ideal S1024x11008 .bf16) (w : Vec Ideal S2048x11008 .i8) (s : FVec Ideal S32x11008 .bf16) : FVec Ideal S1024x4096 .f32 :=
  shapeCast _ (concatenate S1024x2048x2 2
    [⟨S1024x2048x1, (broadcastInDim S1024x2048x1 ![0, 1] bcast_S1024x2048_S1024x2048x1_0_1 (HALF dy (WLO w s)) : FVec Ideal S1024x2048x1 .f32)⟩,
     ⟨S1024x2048x1, (broadcastInDim S1024x2048x1 ![0, 1] bcast_S1024x2048_S1024x2048x1_0_1 (HALF dy (WHI w s)) : FVec Ideal S1024x2048x1 .f32)⟩]
    concatenates_S1024x2048x1_S1024x2048x1_S1024x2048x2_d2) shapeCasts_S1024x2048x2_S1024x4096
/-- The adapter's part of `dx`: `scaling * g · Aᵀ * keep / keep_prob`. -/
def LORA (g : FVec Ideal S1024x64 .bf16) (a : FVec Ideal S4096x64 .bf16) (k : Vec Ideal S1024x4096 .i8) : FVec Ideal S1024x4096 .f32 :=
  Host.divf (mulf (mulf (broadcastInDim S1024x4096 ![] bcast_S_S1024x4096 (constant S_ .f32 0x3E800000#32))
    (Host.dotGeneral dot_S1024x64_S4096x64_S1024x4096_1_1_0_0_n_n none g a)) (KEEP k))
    (broadcastInDim S1024x4096 ![] bcast_S_S1024x4096 (constant S_ .f32 0x3F666666#32))
/-- `dx`. -/
def DX (dy : FVec Ideal S1024x11008 .bf16) (w : Vec Ideal S2048x11008 .i8) (s : FVec Ideal S32x11008 .bf16)
    (k : Vec Ideal S1024x4096 .i8) (a : FVec Ideal S4096x64 .bf16) (g : FVec Ideal S1024x64 .bf16) : FVec Ideal S1024x4096 .bf16 :=
  truncf .bf16 (addf (BASE dy w s) (LORA g a k)) bitsLt_bf16_f32

end Cert.Terms

end
-- ==== Proof.Ideal.Value0.lean ====
/- The first call's value: after its eight points its array holds `xa`, the reference's term of the call's operands. -/
module

public import proofs.«01_k».proof.Proof.Ideal.Region0
public import proofs.«01_k».proof.Proof.Terms
public import Idealize.ShloMosaic.Lib.Pipeline.ValueKit
public import Idealize.ShloMosaic.Lib.Pipeline.ReadBack

@[expose] public section

set_option maxRecDepth 16384

noncomputable section

namespace Cert.KernelIdeal.Own

open Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The accumulator starts at zero. -/
theorem xa_zero (j : S1024x64.Idx) : k0_pay1 (F := Ideal) j = 0 := by pointwise [k0_pay1]

/-- One point's part of the product at `j`. -/
def xaPart (x : FVec Ideal S1024x512 .bf16) (k : Vec Ideal S1024x512 .i8) (a : FVec Ideal S512x64 .bf16) (j : S1024x64.Idx) : Ideal .f32 :=
  ∑ l : Fin 512, Ideal.div (x (ix2 (j 0) l) * FloatOps.sitofp (F := Ideal) .f32 (BitVec.setWidth 32 (k (ix2 (j 0) l)))) (Ideal.ofBits .f32 0x3F666666#32) * a (ix2 l (j 1))

/-- One point adds its block's part of the product. -/
theorem xa_step (acc : FVec Ideal S1024x64 .f32) (x : FVec Ideal S1024x512 .bf16) (k : Vec Ideal S1024x512 .i8) (a : FVec Ideal S512x64 .bf16)
    (j : S1024x64.Idx) : k0_pay2 (F := Ideal) acc x k a j = acc j + xaPart x k a j := by
  pointwise [k0_pay2, xaPart]

/-- The result is the accumulator. -/
theorem xa_last (acc : FVec Ideal S1024x64 .f32) (j : S1024x64.Idx) : k0_pay3 (F := Ideal) acc j = acc j := by
  pointwise [k0_pay3]

/-- The windows' block indices, in closed form. -/
theorem idx0 : ∀ t : Fin cfg0.N, win0_0.index t = ![0, t.val] ∧ win0_1.index t = ![0, t.val] ∧ win0_2.index t = ![t.val, 0]
    ∧ win0_3.index t = ![0, 0] :=
  (by decide +kernel : ∀ t : Fin grid0.N, _)

/-- An element of the reference's product. -/
theorem xa_ref (x : FVec Ideal S1024x4096 .bf16) (k : Vec Ideal S1024x4096 .i8) (a : FVec Ideal S4096x64 .bf16) (j : S1024x64.Idx) :
    Terms.XA x k a j = ∑ l : Fin 4096, Ideal.div (x (ix2 (j 0) l) * FloatOps.sitofp (F := Ideal) .f32 (BitVec.setWidth 32 (k (ix2 (j 0) l)))) (Ideal.ofBits .f32 0x3F666666#32)
      * a (ix2 l (j 1)) := by
  pointwise [Terms.XA, Terms.XD, Terms.KEEP]

/-- The accumulator after the last point: the sum of the points' parts. -/
theorem xa_acc (c : Dev nD) (t : Fin cfg0.N) (ht : t.val + 1 = cfg0.N) (j : S1024x64.Idx) :
    (outsAt0 V c t.val t.isLt).2 j = 0 + ∑ u : Fin cfg0.N, xaPart (iblk0 V c 0 u) (iblk0 V c 1 u) (iblk0 V c 2 u) j := by
  refine Pipeline.eq_sum_fin_of_reset_step_apply_last (fun n h => (outsAt0 V c n h).2) 8 (fun _ => 0)
    (fun u j => xaPart (iblk0 V c 0 u) (iblk0 V c 1 u) (iblk0 V c 2 u) j)
    (fun t h j => ?_) (fun t h j => ?_) (le_of_eq N_0) t ht j
  · rw [outsAt0_A V c t h (by omega)]
    dsimp only
    frame_out
    rw [xa_step, xa_zero]
  · by_cases h7 : t.val % 8 = 7
    · rw [outsAt0_C V c t h h7]
      dsimp only
      frame_out
      rw [xa_step, read_unread_whole]
    · rw [outsAt0_B V c t h h7]
      dsimp only
      frame_out
      rw [xa_step, read_unread_whole]

/-- The result after the last point is the accumulator. -/
theorem xa_out (c : Dev nD) (t : Fin cfg0.N) (h7 : t.val % 8 = 7) (j : S1024x64.Idx) :
    (outsAt0 V c t.val t.isLt).1 j = (outsAt0 V c t.val t.isLt).2 j := by
  rw [outsAt0_C V c t (by omega) h7]
  dsimp only
  frame_out
  rw [xa_last]

/-- After the last point the call's array is the whole product. -/
theorem xa_final (c : Dev nD) : (dat0 V c).arrAt 3 cfg0.N = Terms.XA (V c main_v0) (V c main_v1) (V c main_arg5) := by
  refine (dat0 V c).arrAt_eq_of_covers 3 _ (by decide +kernel) fun t hf y => ?_
  have h7 := (flush0_3 t).mp hf
  have hN : cfg0.N = 8 := N_0
  have hlt : t.val < cfg0.N := t.isLt
  blk_simp
  rw [after0_3, xa_out V c t h7, xa_acc V c t (by omega), zero_add, xa_ref]
  unfold xaPart
  refine Fin.sum_mul_add_congr (fun u k hl => ?_) (by rw [show cfg0.N = 8 from N_0])
  blk_point [iblk0, idx0 t, idx0 u]

end Cert.KernelIdeal.Own

end
-- ==== Proof.Ideal.Value1.lean ====
/- The second call's values: after its forty-three points its arrays hold `g` and `dB`, the reference's terms of the call's
   operands. -/
module

public import proofs.«01_k».proof.Proof.Ideal.Region1
public import proofs.«01_k».proof.Proof.Terms
public import Idealize.ShloMosaic.Lib.Pipeline.ValueKit
public import Idealize.ShloMosaic.Lib.Pipeline.ReadBack

@[expose] public section

set_option maxRecDepth 16384

noncomputable section

namespace Cert.KernelIdeal.Own

open Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The accumulator starts at zero. -/
theorem g_zero (j : S1024x64.Idx) : k1_pay1 (F := Ideal) j = 0 := by pointwise [k1_pay1]

/-- One point's part of the product at `j`. -/
def gPart (dy : FVec Ideal S1024x256 .bf16) (b : FVec Ideal S64x256 .bf16) (j : S1024x64.Idx) : Ideal .f32 :=
  ∑ l : Fin 256, dy (ix2 (j 0) l) * b (ix2 (j 1) l)

/-- One point adds its block's part of the product. -/
theorem g_step (acc : FVec Ideal S1024x64 .f32) (dy : FVec Ideal S1024x256 .bf16) (b : FVec Ideal S64x256 .bf16)
    (j : S1024x64.Idx) : k1_pay2 (F := Ideal) acc dy b j = acc j + gPart dy b j := by
  pointwise [k1_pay2, gPart]

/-- The result is the accumulator. -/
theorem g_last (acc : FVec Ideal S1024x64 .f32) (j : S1024x64.Idx) : k1_pay4 (F := Ideal) acc j = acc j := by
  pointwise [k1_pay4]

/-- An element of a point's block of `dB`. -/
theorem db_pay (xa : FVec Ideal S1024x64 .bf16) (dy : FVec Ideal S1024x256 .bf16) (j : S64x256.Idx) :
    k1_pay3 (F := Ideal) xa dy j = Ideal.ofBits .f32 0x3E800000#32 * ∑ l : Fin 1024, xa (ix2 l (j 0)) * dy (ix2 l (j 1)) := by
  pointwise [k1_pay3]

/-- The windows' block indices, in closed form. -/
theorem idx1 : ∀ t : Fin cfg1.N, win1_0.index t = ![0, t.val] ∧ win1_1.index t = ![0, t.val] ∧ win1_2.index t = ![0, 0]
    ∧ win1_3.index t = ![0, 0] ∧ win1_4.index t = ![0, t.val] :=
  (by decide +kernel : ∀ t : Fin grid1.N, _)

/-- An element of the reference's `g`. -/
theorem g_ref (dy : FVec Ideal S1024x11008 .bf16) (b : FVec Ideal S64x11008 .bf16) (j : S1024x64.Idx) :
    Terms.GG dy b j = ∑ l : Fin 11008, dy (ix2 (j 0) l) * b (ix2 (j 1) l) := by
  pointwise [Terms.GG]

/-- An element of the reference's `dB`. -/
theorem db_ref (xa : FVec Ideal S1024x64 .bf16) (dy : FVec Ideal S1024x11008 .bf16) (j : S64x11008.Idx) :
    Terms.DB xa dy j = Ideal.ofBits .f32 0x3E800000#32 * ∑ l : Fin 1024, xa (ix2 l (j 0)) * dy (ix2 l (j 1)) := by
  pointwise [Terms.DB]

/-- The accumulator after the last point: the sum of the points' parts. -/
theorem g_acc (c : Dev nD) (t : Fin cfg1.N) (ht : t.val + 1 = cfg1.N) (j : S1024x64.Idx) :
    (outsAt1 V c t.val t.isLt).2.2 j = 0 + ∑ u : Fin cfg1.N, gPart (iblk1 V c 0 u) (iblk1 V c 1 u) j := by
  refine Pipeline.eq_sum_fin_of_reset_step_apply_last (fun n h => (outsAt1 V c n h).2.2) 43 (fun _ => 0)
    (fun u j => gPart (iblk1 V c 0 u) (iblk1 V c 1 u) j)
    (fun t h j => ?_) (fun t h j => ?_) (le_of_eq N_1) t ht j
  · rw [outsAt1_A V c t h (by omega)]
    dsimp only
    frame_out
    rw [g_step, g_zero]
  · by_cases h7 : t.val % 43 = 42
    · rw [outsAt1_C V c t h h7]
      dsimp only
      frame_out
      rw [g_step, read_unread_whole]
    · rw [outsAt1_B V c t h h7]
      dsimp only
      frame_out
      rw [g_step, read_unread_whole]

/-- The result after the last point is the accumulator. -/
theorem g_out (c : Dev nD) (t : Fin cfg1.N) (h7 : t.val % 43 = 42) (j : S1024x64.Idx) :
    (outsAt1 V c t.val t.isLt).1 j = (outsAt1 V c t.val t.isLt).2.2 j := by
  rw [outsAt1_C V c t (by omega) h7]
  dsimp only
  frame_out
  rw [g_last]

/-- Every point leaves its block of `dB`. -/
theorem db_out (c : Dev nD) (t : Fin cfg1.N) (j : S64x256.Idx) :
    (outsAt1 V c t.val t.isLt).2.1 j = k1_pay3 (F := Ideal) (iblk1 V c 2 t) (iblk1 V c 0 t) j := by
  by_cases h0 : t.val % 43 = 0
  · rw [outsAt1_A V c t h0 (by omega)]
    dsimp only
    frame_out
  · by_cases h7 : t.val % 43 = 42
    · rw [outsAt1_C V c t h0 h7]
      dsimp only
      frame_out
    · rw [outsAt1_B V c t h0 h7]
      dsimp only
      frame_out

/-- After the last point the call's first array is `g`. -/
theorem g_final (c : Dev nD) : (dat1 V c).arrAt 3 cfg1.N = Terms.GG (V c main_v2) (V c main_arg6) := by
  refine (dat1 V c).arrAt_eq_of_covers 3 _ (by decide +kernel) fun t hf y => ?_
  have h7 := (flush1_3 t).mp hf
  have hN : cfg1.N = 43 := N_1
  have hlt : t.val < cfg1.N := t.isLt
  blk_simp
  rw [after1_3, g_out V c t h7, g_acc V c t (by omega), zero_add, g_ref]
  unfold gPart
  refine Fin.sum_mul_add_congr (fun u k hl => ?_) (by rw [show cfg1.N = 43 from N_1])
  blk_point [iblk1, idx1 t, idx1 u]

/-- After the last point the call's second array is `dB`. -/
theorem db_final (c : Dev nD) : (dat1 V c).arrAt 4 cfg1.N = Terms.DB (V c main_v3) (V c main_v2) := by
  refine (dat1 V c).arrAt_eq_of_covers 4 _ (by decide +kernel) fun t hf y => ?_
  blk_simp
  rw [after1_4, db_out V c t, db_pay, db_ref]
  blk_point [iblk1, idx1 t]

end Cert.KernelIdeal.Own

end
-- ==== Proof.Ideal.Tiles.lean ====
/- The third call's weights: a point decodes its 256 packed rows to a 512-row scratch in tiles of 128 rows by 256 columns. What one
   tile holds, once for every tile, and what a list of such tiles leaves in the scratch. -/
module

public import proofs.«01_k».proof.Proof.Ideal.Region2
public import proofs.«01_k».proof.Proof.Terms
public import Idealize.ShloMosaic.Lib.Pipeline.ValueKit
public import Idealize.ShloMosaic.Lib.Pipeline.ReadBack

@[expose] public section

set_option maxRecDepth 16384

noncomputable section

namespace Cert.KernelIdeal.Own

open Cert.KernelIdeal.Gen
open Idealize.ShloMosaic Idealize.ShloMosaic.TcCoe Idealize.SL.Sem
open Idealize.ShloMosaic.Pipeline (Dat)

/-! ## Lists of pieces that agree with one function -/

/-- Every piece of the list writes what `G` says there. -/
def Good {S : Shape} {e : EltTy} (G : S.Idx → Elt Ideal e) (L : List (View.Piece (Elt Ideal) S e)) : Prop :=
  ∀ p ∈ L, ∀ y, p.2 y = G (p.1.emb y)

theorem good_nil {S : Shape} {e : EltTy} {G : S.Idx → Elt Ideal e} : Good G [] := fun _ h => absurd h List.not_mem_nil

theorem good_cons {S : Shape} {e : EltTy} {G : S.Idx → Elt Ideal e} {r : Rect S} {w : r.shape.Idx → Elt Ideal e} {L : List (View.Piece (Elt Ideal) S e)}
    (h : ∀ y, w y = G (r.emb y)) (hL : Good G L) : Good G (⟨r, w⟩ :: L) :=
  List.forall_mem_cons.mpr ⟨h, hL⟩

/-- Such a list, where it covers, leaves `G`. -/
theorem canon_of_good {S : Shape} {e : EltTy} {G : S.Idx → Elt Ideal e} (y : S.Idx) : (L : List (View.Piece (Elt Ideal) S e)) → Good G L →
    (∃ p ∈ L, y ∈ p.1.set) → View.canon L y = G y
  | [], _, h => by obtain ⟨_, hm, _⟩ := h; exact absurd hm List.not_mem_nil
  | ⟨r, w⟩ :: L, hg, h => by
    obtain ⟨h0, hL⟩ := List.forall_mem_cons.mp hg
    by_cases hy : y ∈ r.set
    · obtain ⟨x, rfl⟩ : ∃ x, r.emb x = y := r.exists_idx_of_mem hy
      rw [View.canon_cons_emb]; exact h0 x
    · rw [View.canon_cons_of_not_mem _ _ hy]
      refine canon_of_good y L hL ?_
      obtain ⟨p, hp, hpy⟩ := h
      rcases List.mem_cons.mp hp with rfl | hp
      · exact absurd hpy hy
      · exact ⟨p, hp, hpy⟩

/-! ## One tile -/

/-- The 4-bit code at parity `p` of a packed byte: the low nibble for an even row, the high one for an odd row. -/
def nib (b : BitVec 8) (p : ℕ) : BitVec 4 :=
  BitVec.setWidth 4 (if p < 1 then IntOp.shrsi ArithUnit.vector (IntOp.shli ArithUnit.vector (BitVec.setWidth 32 b) 28#32) 28#32
    else IntOp.shrsi ArithUnit.vector (IntOp.shli ArithUnit.vector (BitVec.setWidth 32 b) 24#32) 28#32)

/-- The decoded chunk, element by element. -/
theorem codes_apply (v3 : Vec Ideal S256x256 .i8) (j : S512x256.Idx) :
    k2_pay4 (F := Ideal) v3 j = FloatOps.sitofp (F := Ideal) .bf16 (nib (v3 (ix2 ⟨(j 0).val / 2, by have := (j 0).isLt; simp at this; omega⟩ (j 1))) ((j 0).val % 2)) := by
  pointwise [k2_pay4, nib]
  split <;> rfl

/-- A tile: 128 rows of the decoded chunk from row `r`, times their group's scale row. -/
def tile (r : ℕ) (h : S512x256.Slices ![r, 0] S128x256) (v18 : FVec Ideal S512x256 .bf16) (v22 : Vec Ideal S1x256 .f32) : FVec Ideal S128x256 .bf16 :=
  shapeCast S128x256 (mulf (extractStridedSlice S128x256 ![r, 0] v18 h)
    (broadcastTo S128x256 (truncf .bf16 (v22 : FVec Ideal S1x256 .f32) bitsLt_bf16_f32) broadcasts_S1x256_S128x256)) shapeCasts_S128x256_S128x256

theorem tile_apply (r : ℕ) (h : S512x256.Slices ![r, 0] S128x256) (v18 : FVec Ideal S512x256 .bf16) (v22 : Vec Ideal S1x256 .f32) (hr : r + 128 ≤ 512)
    (y : S128x256.Idx) : tile r h v18 v22 y = v18 (ix2 ⟨r + (y 0).val, by have := (y 0).isLt; simp at this; omega⟩ (y 1)) * v22 (ix2 0 (y 1)) := by
  pointwise [tile]

/-- The offset of a group's scale row: row `4 i + w`, from column `col`. -/
def rowOff (i : grid2.Coords) (w : BitVec 32) (col : ℕ) : Fin 2 → ℕ :=
  ![BitVec.toNat (Scalar.indexCast (Scalar.addi (Scalar.muli (BitVec.ofNat 32 (i 0).val) 4#32) w)), col]

theorem rowOff_zero (i : grid2.Coords) (w : BitVec 32) (col : ℕ) (hw : w.toNat < 4) : rowOff i w col 0 = 4 * (i 0).val + w.toNat := by
  have hi : (i 0).val < 8 := (i 0).isLt
  simp only [rowOff, Matrix.cons_val_zero, Scalar.indexCast, Scalar.addi, Scalar.muli, IntOp.addi, IntOp.muli, BitVec.toNat_add, BitVec.toNat_mul, BitVec.toNat_ofNat]
  omega

/-- The point's decoded weights: row `r` of the 512 is a nibble of packed row `r / 2` times the scale of group `4 i + r / 128`. -/
def WB (i : grid2.Coords) (x1 : Vec Ideal S256x11008 .i8) (s : Vec Ideal S32x11008 .f32) (z : S512x11008.Idx) : Ideal .bf16 :=
  FloatOps.sitofp (F := Ideal) .bf16 (nib (x1 (ix2 ⟨(z 0).val / 2, by have := (z 0).isLt; simp at this; omega⟩ (z 1))) ((z 0).val % 2))
    * s (ix2 ⟨4 * (i 0).val + (z 0).val / 128, by have := (z 0).isLt; have hi : (i 0).val < 8 := (i 0).isLt; simp at this; omega⟩ (z 1))

/-- Every tile holds its part of the point's decoded weights. -/
theorem tile_good (i : grid2.Coords) (x1 : Vec Ideal S256x11008 .i8) (s : Vec Ideal S32x11008 .f32) {r col : ℕ} {w : BitVec 32}
    {v : FVec Ideal S128x256 .bf16} {v3 : Vec Ideal S256x256 .i8} {v22 : Vec Ideal S1x256 .f32}
    {h : S512x256.Slices ![r, 0] S128x256} {inb : ∀ a, (![r, col] : Fin 2 → ℕ) a + S128x256.size a ≤ S512x11008.size a}
    {inb1 : ∀ a, (![0, col] : Fin 2 → ℕ) a + S256x256.size a ≤ S256x11008.size a}
    {inb2 : ∀ a, rowOff i w col a + S1x256.size a ≤ S32x11008.size a}
    (hv : v = tile r h (k2_pay4 (F := Ideal) v3) v22)
    (h3 : v3 = View.ld x1 (Rect.unit (s := S256x11008) ![0, col] S256x256.size inb1))
    (h22 : v22 = View.ld s (Rect.unit (s := S32x11008) (rowOff i w col) S1x256.size inb2))
    (hr : r = 128 * w.toNat) (hw : w.toNat < 4) (y : S128x256.Idx) :
    v y = WB i x1 s ((Rect.unit (s := S512x11008) ![r, col] S128x256.size inb).emb y) := by
  rw [hv, tile_apply _ _ _ _ (by omega), codes_apply, h3, h22]
  have h0 := rowOff_zero i w col hw
  have hy0 : (y 0).val < 128 := (y 0).isLt
  unfold WB
  simp only [View.ld]
  congr 1
  · congr 2
    · congr 1
      funext a
      apply Fin.ext
      match a with
      | 0 => simp [Rect.unit, Rect.emb]
      | 1 => simp [Rect.unit, Rect.emb]
    · simp [Rect.unit, Rect.emb]
  · congr 1
    funext a
    apply Fin.ext
    match a with
    | 0 => simp [Rect.unit, Rect.emb, h0]; omega
    | 1 => simp [Rect.unit, Rect.emb, rowOff]

/-- A load of rows from a scratch holding `s`. -/
theorem row_eq (arg10 : Memref sig .tc .vmem S32x11008 .f32) (harg10 : arg10.IsWhole) (s : Vec Ideal S32x11008 .f32) (r : Rect S32x11008) :
    View.readAt (Elt Ideal) arg10.view r.toLoadRect (harg10.unread s) = View.ld s r := by
  rw [View.readAt_eq_ld, harg10.read_unread]

/-- A load of a chunk of the packed block. -/
theorem chunk_eq (arg2 : Memref sig .tc .vmem S256x11008 .i8) (harg2 : arg2.IsWhole) (x : Vec Ideal S256x11008 .i8) (r : Rect S256x11008) :
    View.readAt (Elt Ideal) arg2.view r.toLoadRect (harg2.unread x) = View.ld x r := by
  rw [View.readAt_eq_ld, harg2.read_unread]

/-- The same where the scratch was filled from the scales at this point: their widening. -/
theorem row_fill_eq (arg3 : Memref sig .tc .vmem S32x11008 .bf16) (harg3 : arg3.IsWhole) (arg10 : Memref sig .tc .vmem S32x11008 .f32)
    (x2 : Vec Ideal S32x11008 .bf16) (r : Rect S32x11008) :
    arg10.view.readCov [(⟨Rect.unit (s := S32x11008) ![0, 0] S32x11008.size inb_S32x11008_S32x11008_0_0,
      k2_pay3 (F := Ideal) (View.readAt (Elt Ideal) arg3.view (Rect.unit (s := S32x11008) ![0, 0] S32x11008.size inb_S32x11008_S32x11008_0_0).toLoadRect (harg3.unread x2))⟩ :
        View.Piece (Elt Ideal) S32x11008 .f32)] r.toLoadRect = View.ld (k2_pay3 (F := Ideal) x2) r := by
  rw [View.readCov_eq_canon', View.readAt_eq_ld, harg3.read_unread, View.canon_cons_unit_lit _ _ _ (by decide), View.ld_unit_lit _ _ (by decide)]

end Cert.KernelIdeal.Own

end
-- ==== Proof.Ideal.TilesA.lean ====
/- The third call's weights at the first point, which also fills the scratch of scales: its 172 tiles, all by the one lemma of a tile. -/
module

public import proofs.«01_k».proof.Proof.Ideal.Tiles

@[expose] public section

set_option maxRecDepth 16384

noncomputable section

namespace Cert.KernelIdeal.Own

open Cert.KernelIdeal.Gen
open Idealize.ShloMosaic Idealize.ShloMosaic.TcCoe Idealize.SL.Sem

set_option maxHeartbeats 4000000 in
/-- The tiles of the first point hold the point's decoded weights. -/
theorem good_A (c : Dev nD) (i : grid2.Coords) (arg2 : Memref sig .tc .vmem S256x11008 .i8) (harg2 : arg2.IsWhole)
    (arg3 : Memref sig .tc .vmem S32x11008 .bf16) (harg3 : arg3.IsWhole) (arg10 : Memref sig .tc .vmem S32x11008 .f32)
    (x1 : Vec Ideal S256x11008 .i8) (x2 : Vec Ideal S32x11008 .bf16) :
    Good (WB i x1 (k2_pay3 (F := Ideal) x2)) (kernelRun2_A.sl.HS1_172 c i arg2 harg2 arg3 harg3 arg10 x1 x2) := by
  unfold kernelRun2_A.sl.HS1_172
  iterate 172
    apply good_cons
    · apply tile_good
      · exact rfl
      · exact chunk_eq _ _ _ _
      · exact row_fill_eq _ _ _ _ _
      · decide
      · decide
      all_goals exact slices_S512x256_o384_0_S128x256
  exact good_nil

/-- They cover the scratch. -/
theorem tiles_cover_A (c : Dev nD) (i : grid2.Coords) (arg2 : Memref sig .tc .vmem S256x11008 .i8) (harg2 : arg2.IsWhole)
    (arg3 : Memref sig .tc .vmem S32x11008 .bf16) (harg3 : arg3.IsWhole) (arg10 : Memref sig .tc .vmem S32x11008 .f32)
    (x1 : Vec Ideal S256x11008 .i8) (x2 : Vec Ideal S32x11008 .bf16) (y : S512x11008.Idx) :
    ∃ p ∈ kernelRun2_A.sl.HS1_172 c i arg2 harg2 arg3 harg3 arg10 x1 x2, y ∈ p.1.set :=
  View.cover_of_tiledL (s := S512x11008) _ S128x256.size (by sl_kernel_rfl) y

end Cert.KernelIdeal.Own

end
-- ==== Proof.Ideal.TilesB.lean ====
/- The third call's weights at a point past the first: its 172 tiles, all by the one lemma of a tile. -/
module

public import proofs.«01_k».proof.Proof.Ideal.Tiles

@[expose] public section

set_option maxRecDepth 16384

noncomputable section

namespace Cert.KernelIdeal.Own

open Cert.KernelIdeal.Gen
open Idealize.ShloMosaic Idealize.ShloMosaic.TcCoe Idealize.SL.Sem

set_option maxHeartbeats 4000000 in
/-- The tiles of a point past the first hold the point's decoded weights. -/
theorem good_B (c : Dev nD) (i : grid2.Coords) (arg2 : Memref sig .tc .vmem S256x11008 .i8) (harg2 : arg2.IsWhole)
    (arg10 : Memref sig .tc .vmem S32x11008 .f32) (harg10 : arg10.IsWhole) (x1 : Vec Ideal S256x11008 .i8) (xs0 : Vec Ideal S32x11008 .f32) :
    Good (WB i x1 xs0) (kernelRun2_B.sl.HS1_172 c i arg2 harg2 arg10 harg10 x1 xs0) := by
  unfold kernelRun2_B.sl.HS1_172
  iterate 172
    apply good_cons
    · apply tile_good
      · exact rfl
      · exact chunk_eq _ _ _ _
      · exact row_eq _ _ _ _
      · decide
      · decide
      all_goals exact slices_S512x256_o384_0_S128x256
  exact good_nil

/-- They cover the scratch. -/
theorem tiles_cover_B (c : Dev nD) (i : grid2.Coords) (arg2 : Memref sig .tc .vmem S256x11008 .i8) (harg2 : arg2.IsWhole)
    (arg10 : Memref sig .tc .vmem S32x11008 .f32) (harg10 : arg10.IsWhole) (x1 : Vec Ideal S256x11008 .i8) (xs0 : Vec Ideal S32x11008 .f32) (y : S512x11008.Idx) :
    ∃ p ∈ kernelRun2_B.sl.HS1_172 c i arg2 harg2 arg10 harg10 x1 xs0, y ∈ p.1.set :=
  View.cover_of_tiledL (s := S512x11008) _ S128x256.size (by sl_kernel_rfl) y

end Cert.KernelIdeal.Own

end
-- ==== Proof.Ideal.Value2.lean ====
/- The third call's values: its arrays hold `dx` and `dA`, the reference's terms of the call's operands. -/
module

public import proofs.«01_k».proof.Proof.Ideal.TilesA
public import proofs.«01_k».proof.Proof.Ideal.TilesB
public import proofs.«01_k».proof.Proof.Terms
public import Idealize.ShloMosaic.Lib.Pipeline.ValueKit
public import Idealize.ShloMosaic.Lib.Pipeline.ReadBack

@[expose] public section

set_option maxRecDepth 16384

noncomputable section

namespace Cert.KernelIdeal.Own

open Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The windows' block indices, in closed form. -/
theorem idx2 : ∀ t : Fin cfg2.N, win2_0.index t = ![0, 0] ∧ win2_1.index t = ![t.val, 0] ∧ win2_2.index t = ![0, 0]
    ∧ win2_3.index t = ![0, t.val] ∧ win2_4.index t = ![0, t.val] ∧ win2_5.index t = ![t.val, 0] ∧ win2_6.index t = ![0, 0]
    ∧ win2_7.index t = ![0, t.val] ∧ win2_8.index t = ![t.val, 0] :=
  (by decide +kernel : ∀ t : Fin grid2.N, _)

/-- The grid's one coordinate is the point. -/
theorem coord2 : ∀ t : Fin cfg2.N, ((grid2.coords t) 0).val = t.val :=
  (by decide +kernel : ∀ t : Fin grid2.N, _)

/-! ## The payloads at an index -/

theorem scale_pay (x : Vec Ideal S32x11008 .bf16) (j : S32x11008.Idx) : k2_pay3 (F := Ideal) x j = x j := by
  pointwise [k2_pay3]

theorem da_pay (x : Vec Ideal S1024x512 .bf16) (k : Vec Ideal S1024x512 .i8) (g : Vec Ideal S1024x64 .bf16) (j : S512x64.Idx) :
    k2_pay2 (F := Ideal) x k g j = Ideal.ofBits .f32 0x3E800000#32 * ∑ l : Fin 1024,
      Ideal.div (x (ix2 l (j 0)) * FloatOps.sitofp (F := Ideal) .f32 (BitVec.setWidth 32 (k (ix2 l (j 0))))) (Ideal.ofBits .f32 0x3F666666#32) * g (ix2 l (j 1)) := by
  pointwise [k2_pay2]

theorem keep_pay (k : Vec Ideal S1024x512 .i8) (j : S1024x512.Idx) :
    k2_pay283 (F := Ideal) k j = FloatOps.sitofp (F := Ideal) .f32 (BitVec.setWidth 32 (k j)) := by
  pointwise [k2_pay283]

theorem base_pay (dy : Vec Ideal S1024x11008 .bf16) (w : Vec Ideal S512x11008 .bf16) (j : S1024x512.Idx) :
    k2_pay284 (F := Ideal) dy w j = ∑ l : Fin 11008, dy (ix2 (j 0) l) * w (ix2 (j 1) l) := by
  pointwise [k2_pay284]

theorem dx_pay (k b : FVec Ideal S1024x512 .f32) (g : FVec Ideal S1024x64 .bf16) (a : Vec Ideal S512x64 .bf16) (j : S1024x512.Idx) :
    k2_pay1 (F := Ideal) k b g a (constant S1024x512 FTy.f32 0#32) j = b j +
      Ideal.div ((Ideal.ofBits .f32 0x3E800000#32 * ∑ l : Fin 64, g (ix2 (j 0) l) * a (ix2 (j 1) l)) * k j) (Ideal.ofBits .f32 0x3F666666#32) := by
  pointwise [k2_pay1]

theorem g_pay (g : Vec Ideal S1024x64 .bf16) (j : S1024x64.Idx) : k2_pay285 (F := Ideal) g j = g j := by
  pointwise [k2_pay285]

/-! ## What a point leaves -/

/-- The scales' block is the scales, at every point. -/
theorem scales_blk (c : Dev nD) (t : Fin cfg2.N) : k2_pay3 (F := Ideal) (iblk2 V c 2 t) = k2_pay3 (F := Ideal) (V c main_arg4) := by
  funext j
  rw [scale_pay, scale_pay]
  blk_point [iblk2, idx2 t]

/-- The scratch of scales holds the scales. -/
theorem scale_acc (c : Dev nD) : (n : ℕ) → (h : n < cfg2.N) → (outsAt2 V c n h).2.2 = k2_pay3 (F := Ideal) (V c main_arg4)
  | 0, h => by
    rw [outsAt2_A V c ⟨0, h⟩ rfl]
    dsimp only
    frame_out
    exact scales_blk V c ⟨0, h⟩
  | n + 1, h => by
    have hN : cfg2.N = 8 := N_2
    rw [outsAt2_B V c ⟨n + 1, h⟩ (by dsimp only; omega)]
    dsimp only
    unfold sout2_B_0
    exact scale_acc c n _

/-- A point's block of `dx` at `j`. -/
def dxPart (i : grid2.Coords) (dy : Vec Ideal S1024x11008 .bf16) (w : Vec Ideal S256x11008 .i8) (s : Vec Ideal S32x11008 .f32)
    (k : Vec Ideal S1024x512 .i8) (a : Vec Ideal S512x64 .bf16) (g : Vec Ideal S1024x64 .bf16) (j : S1024x512.Idx) : Ideal .f32 :=
  (∑ l : Fin 11008, dy (ix2 (j 0) l) * WB i w s (ix2 (j 1) l)) +
      Ideal.div ((Ideal.ofBits .f32 0x3E800000#32 * ∑ l : Fin 64, g (ix2 (j 0) l) * a (ix2 (j 1) l)) *
        FloatOps.sitofp (F := Ideal) .f32 (BitVec.setWidth 32 (k j))) (Ideal.ofBits .f32 0x3F666666#32)

/-- The scratch of weights, read whole, in case A. -/
theorem wb_A (c : Dev nD) (i : grid2.Coords) (arg2 : Memref sig .tc .vmem S256x11008 .i8) (harg2 : arg2.IsWhole) (arg3 : Memref sig .tc .vmem S32x11008 .bf16) (harg3 : arg3.IsWhole) (arg10 : Memref sig .tc .vmem S32x11008 .f32) (arg11 : Memref sig .tc .vmem S512x11008 .bf16)
    (x1 : Vec Ideal S256x11008 .i8) (x2 : Vec Ideal S32x11008 .bf16) :
    kernelRun2_A.sl.v2589 c i arg2 harg2 arg3 harg3 arg10 arg11 x1 x2 = WB i x1 (k2_pay3 (F := Ideal) x2) := by
  unfold kernelRun2_A.sl.v2589
  rw [View.readCov_eq_canon']
  funext j
  rw [canon_of_good _ _ (good_A c i arg2 harg2 arg3 harg3 arg10 x1 x2) (tiles_cover_A c i arg2 harg2 arg3 harg3 arg10 x1 x2 _)]
  refine congrArg _ (funext fun a => Fin.ext ?_)
  exact (Rect.idx_unit_val _ _ _ j a).trans (by match a with | 0 => exact Nat.zero_add _ | 1 => exact Nat.zero_add _)

/-- Case A's block of `dx`. -/
theorem dx_A (c : Dev nD) (i : grid2.Coords) (arg1 : Memref sig .tc .vmem S1024x11008 .bf16) (harg1 : arg1.IsWhole) (arg2 : Memref sig .tc .vmem S256x11008 .i8) (harg2 : arg2.IsWhole) (arg3 : Memref sig .tc .vmem S32x11008 .bf16) (harg3 : arg3.IsWhole) (arg4 : Memref sig .tc .vmem S1024x512 .bf16) (harg4 : arg4.IsWhole) (arg5 : Memref sig .tc .vmem S1024x512 .i8) (harg5 : arg5.IsWhole) (arg6 : Memref sig .tc .vmem S512x64 .bf16) (harg6 : arg6.IsWhole) (arg7 : Memref sig .tc .vmem S1024x64 .bf16) (harg7 : arg7.IsWhole) (arg8 : Memref sig .tc .vmem S1024x512 .bf16) (harg8 : arg8.IsWhole) (arg9 : Memref sig .tc .vmem S512x64 .f32) (harg9 : arg9.IsWhole) (arg10 : Memref sig .tc .vmem S32x11008 .f32) (harg10 : arg10.IsWhole) (arg11 : Memref sig .tc .vmem S512x11008 .bf16) (harg11 : arg11.IsWhole) (hc0 : cond2_0 i)
    (x0 : Vec Ideal S1024x11008 .bf16) (x1 : Vec Ideal S256x11008 .i8) (x2 : Vec Ideal S32x11008 .bf16) (x3 : Vec Ideal S1024x512 .bf16) (x4 : Vec Ideal S1024x512 .i8) (x5 : Vec Ideal S512x64 .bf16) (x6 : Vec Ideal S1024x64 .bf16) (j : S1024x512.Idx) :
    out2_A_7 c i arg1 harg1 arg2 harg2 arg3 harg3 arg4 harg4 arg5 harg5 arg6 harg6 arg7 harg7 arg8 harg8 arg9 harg9 arg10 harg10 arg11 harg11 hc0 x0 x1 x2 x3 x4 x5 x6 j = dxPart i x0 x1 (k2_pay3 (F := Ideal) x2) x4 x5 x6 j := by
  unfold out2_A_7 kernelRun2_A
  dsimp only
  rw [View.read_writes_junk_eq_canon, View.canon_cons_unit_lit _ _ _ (by decide)]
  unfold kernelRun2_A.sl.cst_1078 kernelRun2_A.sl.r_107 kernelRun2_A.sl.r_108 kernelRun2_A.sl.r_109 kernelRun2_A.sl.r_110
  rw [dx_pay, wb_A, base_pay, keep_pay]
  simp only [View.readAt_eq_ld, Memref.IsWhole.read_unread]
  rw [View.ld_unit_lit _ _ (by decide), View.ld_unit_lit _ _ (by decide), View.ld_unit_lit _ _ (by decide), View.ld_unit_lit _ _ (by decide)]
  simp only [g_pay]
  rfl

/-- The scratch of weights, read whole, in case B. -/
theorem wb_B (c : Dev nD) (i : grid2.Coords) (arg2 : Memref sig .tc .vmem S256x11008 .i8) (harg2 : arg2.IsWhole) (arg10 : Memref sig .tc .vmem S32x11008 .f32) (harg10 : arg10.IsWhole) (arg11 : Memref sig .tc .vmem S512x11008 .bf16)
    (x1 : Vec Ideal S256x11008 .i8) (xs0 : Vec Ideal S32x11008 .f32) :
    kernelRun2_B.sl.v2589 c i arg2 harg2 arg10 harg10 arg11 x1 xs0 = WB i x1 (xs0) := by
  unfold kernelRun2_B.sl.v2589
  rw [View.readCov_eq_canon']
  funext j
  rw [canon_of_good _ _ (good_B c i arg2 harg2 arg10 harg10 x1 xs0) (tiles_cover_B c i arg2 harg2 arg10 harg10 x1 xs0 _)]
  refine congrArg _ (funext fun a => Fin.ext ?_)
  exact (Rect.idx_unit_val _ _ _ j a).trans (by match a with | 0 => exact Nat.zero_add _ | 1 => exact Nat.zero_add _)

/-- Case B's block of `dx`. -/
theorem dx_B (c : Dev nD) (i : grid2.Coords) (arg1 : Memref sig .tc .vmem S1024x11008 .bf16) (harg1 : arg1.IsWhole) (arg2 : Memref sig .tc .vmem S256x11008 .i8) (harg2 : arg2.IsWhole) (arg3 : Memref sig .tc .vmem S32x11008 .bf16) (harg3 : arg3.IsWhole) (arg4 : Memref sig .tc .vmem S1024x512 .bf16) (harg4 : arg4.IsWhole) (arg5 : Memref sig .tc .vmem S1024x512 .i8) (harg5 : arg5.IsWhole) (arg6 : Memref sig .tc .vmem S512x64 .bf16) (harg6 : arg6.IsWhole) (arg7 : Memref sig .tc .vmem S1024x64 .bf16) (harg7 : arg7.IsWhole) (arg8 : Memref sig .tc .vmem S1024x512 .bf16) (harg8 : arg8.IsWhole) (arg9 : Memref sig .tc .vmem S512x64 .f32) (harg9 : arg9.IsWhole) (arg10 : Memref sig .tc .vmem S32x11008 .f32) (harg10 : arg10.IsWhole) (arg11 : Memref sig .tc .vmem S512x11008 .bf16) (harg11 : arg11.IsWhole) (hc0 : ¬cond2_0 i)
    (x0 : Vec Ideal S1024x11008 .bf16) (x1 : Vec Ideal S256x11008 .i8) (x2 : Vec Ideal S32x11008 .bf16) (x3 : Vec Ideal S1024x512 .bf16) (x4 : Vec Ideal S1024x512 .i8) (x5 : Vec Ideal S512x64 .bf16) (x6 : Vec Ideal S1024x64 .bf16) (xs0 : Vec Ideal S32x11008 .f32) (j : S1024x512.Idx) :
    out2_B_7 c i arg1 harg1 arg2 harg2 arg3 harg3 arg4 harg4 arg5 harg5 arg6 harg6 arg7 harg7 arg8 harg8 arg9 harg9 arg10 harg10 arg11 harg11 hc0 x0 x1 x2 x3 x4 x5 x6 xs0 j = dxPart i x0 x1 (xs0) x4 x5 x6 j := by
  unfold out2_B_7 kernelRun2_B
  dsimp only
  rw [View.read_writes_junk_eq_canon, View.canon_cons_unit_lit _ _ _ (by decide)]
  unfold kernelRun2_B.sl.cst_1078 kernelRun2_B.sl.r_107 kernelRun2_B.sl.r_108 kernelRun2_B.sl.r_109 kernelRun2_B.sl.r_110
  rw [dx_pay, wb_B, base_pay, keep_pay]
  simp only [View.readAt_eq_ld, Memref.IsWhole.read_unread]
  rw [View.ld_unit_lit _ _ (by decide), View.ld_unit_lit _ _ (by decide), View.ld_unit_lit _ _ (by decide), View.ld_unit_lit _ _ (by decide)]
  simp only [g_pay]
  rfl

/-- Every point leaves its block of `dx`. -/
theorem dx_out (c : Dev nD) (t : Fin cfg2.N) (j : S1024x512.Idx) : (outsAt2 V c t.val t.isLt).1 j =
    dxPart (grid2.coords t) (iblk2 V c 0 t) (iblk2 V c 1 t) (k2_pay3 (F := Ideal) (V c main_arg4)) (iblk2 V c 4 t) (iblk2 V c 5 t) (iblk2 V c 6 t) j := by
  by_cases h0 : t.val % 8 = 0
  · rw [outsAt2_A V c t h0]
    dsimp only
    rw [dx_A, scales_blk]
  · rw [outsAt2_B V c t h0]
    dsimp only
    rw [dx_B, scale_acc]

theorem da_out (c : Dev nD) (t : Fin cfg2.N) (j : S512x64.Idx) : (outsAt2 V c t.val t.isLt).2.1 j =
    k2_pay2 (F := Ideal) (iblk2 V c 3 t) (iblk2 V c 4 t) (iblk2 V c 6 t) j := by
  by_cases h0 : t.val % 8 = 0
  · rw [outsAt2_A V c t h0]
    dsimp only
    frame_out
  · rw [outsAt2_B V c t h0]
    dsimp only
    frame_out

/-! ## The reference's terms at an index -/

/-- A byte's low nibble, read as the reference reads it. -/
theorem nib_lo (b : BitVec 8) : FloatOps.sitofp (F := Ideal) .bf16 (nib b 0) =
    FloatOps.sitofp (F := Ideal) .bf16 (Scalar.select (IntOp.cmpi .sge (IntOp.andi (BitVec.setWidth 32 b) 15#32) 8#32)
      (IntOp.subi (IntOp.andi (BitVec.setWidth 32 b) 15#32) 16#32) (IntOp.andi (BitVec.setWidth 32 b) 15#32)) := by
  have h : ∀ b : BitVec 8, (nib b 0).toInt = (Scalar.select (IntOp.cmpi .sge (IntOp.andi (BitVec.setWidth 32 b) 15#32) 8#32)
      (IntOp.subi (IntOp.andi (BitVec.setWidth 32 b) 15#32) 16#32) (IntOp.andi (BitVec.setWidth 32 b) 15#32)).toInt := by decide +kernel
  exact congrArg (fun n : ℤ => ((n : ℝ) : EReal)) (h b)

/-- A byte's high nibble, read as the reference reads it. -/
theorem nib_hi (b : BitVec 8) : FloatOps.sitofp (F := Ideal) .bf16 (nib b 1) =
    FloatOps.sitofp (F := Ideal) .bf16 (Scalar.select (IntOp.cmpi .sge (IntOp.shrsi ArithUnit.host (BitVec.setWidth 32 b) 4#32) 8#32)
      (IntOp.subi (IntOp.shrsi ArithUnit.host (BitVec.setWidth 32 b) 4#32) 16#32) (IntOp.shrsi ArithUnit.host (BitVec.setWidth 32 b) 4#32)) := by
  have h : ∀ b : BitVec 8, (nib b 1).toInt = (Scalar.select (IntOp.cmpi .sge (IntOp.shrsi ArithUnit.host (BitVec.setWidth 32 b) 4#32) 8#32)
      (IntOp.subi (IntOp.shrsi ArithUnit.host (BitVec.setWidth 32 b) 4#32) 16#32) (IntOp.shrsi ArithUnit.host (BitVec.setWidth 32 b) 4#32)).toInt := by decide +kernel
  exact congrArg (fun n : ℤ => ((n : ℝ) : EReal)) (h b)

theorem wlo_ref (w : Vec Ideal S2048x11008 .i8) (s : Vec Ideal S32x11008 .bf16) (j : S2048x11008.Idx) :
    Terms.WLO w s j = FloatOps.sitofp (F := Ideal) .bf16 (nib (w j) 0) * s (ix2 ⟨(j 0).val / 64, by have := (j 0).isLt; change _ < 2048 at this; omega⟩ (j 1)) := by
  rw [nib_lo]
  pointwise [Terms.WLO, Terms.SCALED, Terms.CODE]

theorem whi_ref (w : Vec Ideal S2048x11008 .i8) (s : Vec Ideal S32x11008 .bf16) (j : S2048x11008.Idx) :
    Terms.WHI w s j = FloatOps.sitofp (F := Ideal) .bf16 (nib (w j) 1) * s (ix2 ⟨(j 0).val / 64, by have := (j 0).isLt; change _ < 2048 at this; omega⟩ (j 1)) := by
  rw [nib_hi]
  pointwise [Terms.WHI, Terms.SCALED, Terms.CODE]

theorem base_ref (dy : Vec Ideal S1024x11008 .bf16) (w : Vec Ideal S2048x11008 .i8) (s : Vec Ideal S32x11008 .bf16) (j : S1024x4096.Idx) :
    Terms.BASE dy w s j = ∑ l : Fin 11008, dy (ix2 (j 0) l) *
      (FloatOps.sitofp (F := Ideal) .bf16 (nib (w (ix2 ⟨(j 1).val / 2, by have := (j 1).isLt; change _ < 4096 at this; omega⟩ l)) ((j 1).val % 2)) *
        s (ix2 ⟨(j 1).val / 128, by have := (j 1).isLt; change _ < 4096 at this; omega⟩ l)) := by
  have hj : (j 1).val < 4096 := (j 1).isLt
  have e : Terms.BASE dy w s j = if h : (j 1).val % 2 < 1
      then ∑ x : Fin 11008, dy (ix2 (j 0) x) * Terms.WLO w s (ix2 ⟨(j 1).val / 2, by omega⟩ x)
      else ∑ x : Fin 11008, dy (ix2 (j 0) x) * Terms.WHI w s (ix2 ⟨(j 1).val / 2, by omega⟩ x) := by
    pointwise [Terms.BASE, Terms.HALF]
  rw [e]
  have hq : (j 1).val / 2 / 64 = (j 1).val / 128 := by omega
  split
  · rename_i h
    have h0 : (j 1).val % 2 = 0 := by omega
    refine Finset.sum_congr rfl fun l _ => ?_
    rw [wlo_ref, h0]
    congr 3
    exact congrArg (fun r => ix2 r l) (Fin.ext hq)
  · rename_i h
    have h1 : (j 1).val % 2 = 1 := by omega
    refine Finset.sum_congr rfl fun l _ => ?_
    rw [whi_ref, h1]
    congr 3
    exact congrArg (fun r => ix2 r l) (Fin.ext hq)

theorem dx_ref (dy : Vec Ideal S1024x11008 .bf16) (w : Vec Ideal S2048x11008 .i8) (s : Vec Ideal S32x11008 .bf16)
    (k : Vec Ideal S1024x4096 .i8) (a : Vec Ideal S4096x64 .bf16) (g : Vec Ideal S1024x64 .bf16) (j : S1024x4096.Idx) :
    Terms.DX dy w s k a g j = Terms.BASE dy w s j +
      Ideal.div ((Ideal.ofBits .f32 0x3E800000#32 * ∑ l : Fin 64, g (ix2 (j 0) l) * a (ix2 (j 1) l)) *
        FloatOps.sitofp (F := Ideal) .f32 (BitVec.setWidth 32 (k j))) (Ideal.ofBits .f32 0x3F666666#32) := by
  pointwise [Terms.DX, Terms.LORA, Terms.KEEP]

theorem da_ref (x : Vec Ideal S1024x4096 .bf16) (k : Vec Ideal S1024x4096 .i8) (g : Vec Ideal S1024x64 .bf16) (j : S4096x64.Idx) :
    Terms.DA x k g j = Ideal.ofBits .f32 0x3E800000#32 * ∑ l : Fin 1024,
      Ideal.div (x (ix2 l (j 0)) * FloatOps.sitofp (F := Ideal) .f32 (BitVec.setWidth 32 (k (ix2 l (j 0))))) (Ideal.ofBits .f32 0x3F666666#32) * g (ix2 l (j 1)) := by
  pointwise [Terms.DA, Terms.XD, Terms.KEEP]

/-! ## The call's two arrays -/

/-- After the last point the call's second array is `dA`. -/
theorem da_final (c : Dev nD) : (dat2 V c).arrAt 8 cfg2.N = Terms.DA (V c main_v0) (V c main_v1) (V c main_v4_0) := by
  refine (dat2 V c).arrAt_eq_of_covers 8 _ (by decide +kernel) fun t hf y => ?_
  blk_simp
  rw [after2_8, da_out V c t, da_pay, da_ref]
  blk_point [iblk2, idx2 t]

/-- After the last point the call's first array is `dx`. -/
theorem dx_final (c : Dev nD) : (dat2 V c).arrAt 7 cfg2.N =
    Terms.DX (V c main_v2) (V c main_arg3) (V c main_arg4) (V c main_v1) (V c main_arg5) (V c main_v4_0) := by
  refine (dat2 V c).arrAt_eq_of_covers 7 _ (by decide +kernel) fun t hf y => ?_
  blk_simp
  rw [after2_7, dx_out V c t, dx_ref, base_ref]
  unfold dxPart
  refine congrArg₂ (· + ·) ?_ ?_
  · refine Finset.sum_congr rfl fun l _ => ?_
    have he : ((win2_7.blk t).view.emb y 1).val = t.val * 512 + (y 1).val := by
      blk_point [idx2 t]
    have hm : ((win2_7.blk t).view.emb y 1).val % 2 = (y 1).val % 2 := by omega
    unfold WB
    rw [scale_pay, hm]
    blk_point [iblk2, idx2 t, coord2 t]
  · blk_point [iblk2, idx2 t]

end Cert.KernelIdeal.Own

end
-- ==== Proof.Ideal.Results.lean ====
/- The kernel's five results over the extended reals, as the reference's terms of the kernel's arguments. -/
module

public import proofs.«01_k».proof.Proof.Ideal.Frame
public import proofs.«01_k».proof.Proof.Ideal.Value0
public import proofs.«01_k».proof.Proof.Ideal.Value1
public import proofs.«01_k».proof.Proof.Ideal.Value2

@[expose] public section

set_option maxRecDepth 16384

noncomputable section

namespace Cert.KernelIdeal.Own

open Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-! ## The arguments -/

/-- The input, as a matrix. -/
def aX : FVec Ideal S1024x4096 .bf16 := shapeCast _ (m ((c : Thread nD τ).loc main_arg0) : FVec Ideal S1x1024x4096 .bf16) shapeCasts_S1x1024x4096_S1024x4096
/-- The dropout mask, as a matrix. -/
def aK : Vec Ideal S1024x4096 .i8 := shapeCast _ (m ((c : Thread nD τ).loc main_arg1) : Vec Ideal S1x1024x4096 .i8) shapeCasts_S1x1024x4096_S1024x4096
/-- The output's gradient, as a matrix. -/
def aDy : FVec Ideal S1024x11008 .bf16 := shapeCast _ (m ((c : Thread nD τ).loc main_arg2) : FVec Ideal S1x1024x11008 .bf16) shapeCasts_S1x1024x11008_S1024x11008
/-- The packed weights. -/
def aW : Vec Ideal S2048x11008 .i8 := m ((c : Thread nD τ).loc main_arg3)
/-- The scales. -/
def aS : FVec Ideal S32x11008 .bf16 := m ((c : Thread nD τ).loc main_arg4)
/-- The adapter's first matrix. -/
def aA : FVec Ideal S4096x64 .bf16 := m ((c : Thread nD τ).loc main_arg5)
/-- The adapter's second matrix. -/
def aB : FVec Ideal S64x11008 .bf16 := m ((c : Thread nD τ).loc main_arg6)

/-- The first result of the first call. -/
def rXa : FVec Ideal S1024x64 .bf16 := Terms.XA (aX m c) (aK m c) (aA m c)
/-- The second call's first result. -/
def rG : FVec Ideal S1024x64 .bf16 := Terms.GG (aDy m c) (aB m c)

/-! ## The matrices the host hands the calls -/

theorem W1_v0 : W1 m ρ c (Proc.devRef .tc main_v0) = aX m c := by
  unfold aX; after_results_simp <;> rfl
theorem W1_v1 : W1 m ρ c (Proc.devRef .tc main_v1) = aK m c := by
  unfold aK; after_results_simp <;> rfl
theorem W1_v2 : W1 m ρ c (Proc.devRef .tc main_v2) = aDy m c := by
  unfold aDy; after_results_simp <;> rfl

/-! ## The calls' results -/

theorem W2_v3 : W2 m ρ c (Proc.devRef .tc main_v3) = rXa m c := by
  refine (W2_arr m ρ c 3).trans ((xa_final (V1 m ρ) c).trans ?_)
  unfold rXa
  rw [show V1 m ρ c main_v0 = aX m c from W1_v0 m ρ c, show V1 m ρ c main_v1 = aK m c from W1_v1 m ρ c,
    show V1 m ρ c main_arg5 = aA m c from W1_args m ρ c main_arg5 (by decide)]

theorem W2_v0 : W2 m ρ c (Proc.devRef .tc main_v0) = aX m c := (W2_of m ρ c main_v0 (by decide)).trans (W1_v0 m ρ c)
theorem W2_v1 : W2 m ρ c (Proc.devRef .tc main_v1) = aK m c := (W2_of m ρ c main_v1 (by decide)).trans (W1_v1 m ρ c)
theorem W2_v2 : W2 m ρ c (Proc.devRef .tc main_v2) = aDy m c := (W2_of m ρ c main_v2 (by decide)).trans (W1_v2 m ρ c)

theorem W3_g : W3 m ρ c (Proc.devRef .tc main_v4_0) = rG m c := by
  refine (W3_arr m ρ c 3).trans ((g_final (V2 m ρ) c).trans ?_)
  unfold rG
  rw [show V2 m ρ c main_v2 = aDy m c from W2_v2 m ρ c, show V2 m ρ c main_arg6 = aB m c from W2_args m ρ c main_arg6 (by decide)]

theorem W3_db : W3 m ρ c (Proc.devRef .tc main_v4_1) = Terms.DB (rXa m c) (aDy m c) := by
  refine (W3_arr m ρ c 4).trans ((db_final (V2 m ρ) c).trans ?_)
  rw [show V2 m ρ c main_v2 = aDy m c from W2_v2 m ρ c, show V2 m ρ c main_v3 = rXa m c from W2_v3 m ρ c]

theorem W3_xa : W3 m ρ c (Proc.devRef .tc main_v3) = rXa m c := (W3_of m ρ c main_v3 (by decide)).trans (W2_v3 m ρ c)
theorem W3_v0 : W3 m ρ c (Proc.devRef .tc main_v0) = aX m c := (W3_of m ρ c main_v0 (by decide)).trans (W2_v0 m ρ c)
theorem W3_v1 : W3 m ρ c (Proc.devRef .tc main_v1) = aK m c := (W3_of m ρ c main_v1 (by decide)).trans (W2_v1 m ρ c)
theorem W3_v2 : W3 m ρ c (Proc.devRef .tc main_v2) = aDy m c := (W3_of m ρ c main_v2 (by decide)).trans (W2_v2 m ρ c)

theorem W4_dx : W4 m ρ c (Proc.devRef .tc main_v5_0) = Terms.DX (aDy m c) (aW m c) (aS m c) (aK m c) (aA m c) (rG m c) := by
  refine (W4_arr m ρ c 7).trans ((dx_final (V3 m ρ) c).trans ?_)
  rw [show V3 m ρ c main_v2 = aDy m c from W3_v2 m ρ c, show V3 m ρ c main_arg3 = aW m c from W3_args m ρ c main_arg3 (by decide),
    show V3 m ρ c main_arg4 = aS m c from W3_args m ρ c main_arg4 (by decide), show V3 m ρ c main_v1 = aK m c from W3_v1 m ρ c,
    show V3 m ρ c main_arg5 = aA m c from W3_args m ρ c main_arg5 (by decide), show V3 m ρ c main_v4_0 = rG m c from W3_g m ρ c]

theorem W4_da : W4 m ρ c (Proc.devRef .tc main_v5_1) = Terms.DA (aX m c) (aK m c) (rG m c) := by
  refine (W4_arr m ρ c 8).trans ((da_final (V3 m ρ) c).trans ?_)
  rw [show V3 m ρ c main_v0 = aX m c from W3_v0 m ρ c, show V3 m ρ c main_v1 = aK m c from W3_v1 m ρ c,
    show V3 m ρ c main_v4_0 = rG m c from W3_g m ρ c]

theorem W4_db : W4 m ρ c (Proc.devRef .tc main_v4_1) = Terms.DB (rXa m c) (aDy m c) := (W4_of m ρ c main_v4_1 (by decide)).trans (W3_db m ρ c)
theorem W4_g : W4 m ρ c (Proc.devRef .tc main_v4_0) = rG m c := (W4_of m ρ c main_v4_0 (by decide)).trans (W3_g m ρ c)
theorem W4_xa : W4 m ρ c (Proc.devRef .tc main_v3) = rXa m c := (W4_of m ρ c main_v3 (by decide)).trans (W3_xa m ρ c)

/-! ## The program's results -/

/-- `dx`. -/
def oDx : FVec Ideal S1x1024x4096 .bf16 :=
  shapeCast _ (Terms.DX (aDy m c) (aW m c) (aS m c) (aK m c) (aA m c) (rG m c)) shapeCasts_S1024x4096_S1x1024x4096
/-- `dA`. -/
def oDa : FVec Ideal S4096x64 .f32 := Terms.DA (aX m c) (aK m c) (rG m c)
/-- `dB`. -/
def oDb : FVec Ideal S64x11008 .f32 := Terms.DB (rXa m c) (aDy m c)
/-- `g`. -/
def oG : FVec Ideal S1x1024x64 .bf16 := shapeCast _ (rG m c) shapeCasts_S1024x64_S1x1024x64
/-- `xa`. -/
def oXa : FVec Ideal S1x1024x64 .bf16 := shapeCast _ (rXa m c) shapeCasts_S1024x64_S1x1024x64

theorem W5_dx : W5 m ρ c (Proc.devRef .tc main_v6) = oDx m c := by
  unfold oDx; rw [← W4_dx m ρ c]; after_results_simp <;> rfl
theorem W5_da : W5 m ρ c (Proc.devRef .tc main_v5_1) = oDa m c := (W5_of m ρ c main_v5_1 (by decide)).trans (W4_da m ρ c)
theorem W5_db : W5 m ρ c (Proc.devRef .tc main_v4_1) = oDb m c := (W5_of m ρ c main_v4_1 (by decide)).trans (W4_db m ρ c)
theorem W5_g : W5 m ρ c (Proc.devRef .tc main_v7) = oG m c := by
  unfold oG; rw [← W4_g m ρ c]; after_results_simp <;> rfl
theorem W5_xa : W5 m ρ c (Proc.devRef .tc main_v8) = oXa m c := by
  unfold oXa; rw [← W4_xa m ρ c]; after_results_simp <;> rfl

/-- The run with its results: each result array ends at the reference's term, each argument array as launched. -/
theorem results : θ_run defs (onTc (τ := τ) (main (F := Ideal))) ⟨m, fun _ => 0, ρ⟩ (fun r => ∀ c : Dev nD,
      r.2.mem ((c.tc : Thread nD τ).loc main_v6) = oDx m c
      ∧ r.2.mem ((c.tc : Thread nD τ).loc main_v5_1) = oDa m c
      ∧ r.2.mem ((c.tc : Thread nD τ).loc main_v4_1) = oDb m c
      ∧ r.2.mem ((c.tc : Thread nD τ).loc main_v7) = oG m c
      ∧ r.2.mem ((c.tc : Thread nD τ).loc main_v8) = oXa m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
      ⟨(h.1 c _ (mem_uc main_v6 (by decide))).trans (W5_dx m ρ c),
       (h.1 c _ (mem_uc main_v5_1 (by decide))).trans (W5_da m ρ c),
       (h.1 c _ (mem_uc main_v4_1 (by decide))).trans (W5_db m ρ c),
       (h.1 c _ (mem_uc main_v7 (by decide))).trans (W5_g m ρ c),
       (h.1 c _ (mem_uc main_v8 (by decide))).trans (W5_xa m ρ c),
       (h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c),
       (h.1 c _ (mem_uc main_arg4 (by decide))).trans (W5_main_arg4 m ρ c),
       (h.1 c _ (mem_uc main_arg5 (by decide))).trans (W5_main_arg5 m ρ c),
       (h.1 c _ (mem_uc main_arg6 (by decide))).trans (W5_main_arg6 m ρ c)⟩) (ends m ρ)

end Cert.KernelIdeal.Own

end
-- ==== Proof.lean ====
/- The proof of the certificate's claims: the two programs' frames (the kernel over the machine's words and over the
   extended reals), the reference's frame, and the equality of the five results over the extended reals. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Twin
public import proofs.«01_k».proof.Proof.Ideal.Results

@[expose] public section

set_option maxRecDepth 16384

noncomputable section

namespace Cert.Proof

open Idealize.ShloMosaic Idealize.SL.Sem

/-- The reference's frame: its run leaves the arguments, and it declares no semaphore. -/
theorem reference_frame : Cert.quiescent_ReferenceIdeal := fun m g _ =>
  (θ_run Cert.ReferenceIdeal.defs _ _).mono (fun r h =>
    ⟨fun c => (h c).2.2.2.2.2, sem_eq_zero_of_no_sems (by decide) r.2⟩) (Cert.ReferenceIdeal.Value.run (F := Ideal) m g)

/-- The five results of the kernel are the reference's, over the extended reals. -/
theorem results_equal : Cert.algebraic_KernelIdeal_ReferenceIdeal := by
  intro m g m' g' _ hagree
  refine ⟨Cert.KernelIdeal.Own.oDx m, Cert.KernelIdeal.Own.oDa m, Cert.KernelIdeal.Own.oDb m, Cert.KernelIdeal.Own.oG m,
    Cert.KernelIdeal.Own.oXa m, Cert.KernelIdeal.Own.results m g, ?_⟩
  refine (θ_run Cert.ReferenceIdeal.defs _ _).mono (fun r h c => ?_) (Cert.ReferenceIdeal.Value.run (F := Ideal) m' g')
  obtain ⟨h0, h1, h2, h3, h4, hargs⟩ := h c
  obtain ⟨a0, a1, a2, a3, a4, a5, a6⟩ := hagree c
  refine ⟨h0.trans ?_, h1.trans ?_, h2.trans ?_, h3.trans ?_, h4.trans ?_, hargs⟩
  · rw [a1, a2, a3, a4, a5, a6]; rfl
  · rw [a0, a1, a2, a6]; rfl
  · rw [a0, a1, a2, a5]; rfl
  · rw [a2, a6]; rfl
  · rw [a0, a1, a5]; rfl

theorem claim : Cert.Claim := ⟨Cert.Kernel.Gen.facts, Cert.KernelIdeal.Gen.facts, Cert.ReferenceIdeal.Gen.facts,
  Cert.Kernel.Own.frame, fun m g _ => Cert.KernelIdeal.Own.frame (F := Ideal) m g, reference_frame, trivial, results_equal⟩

end Cert.Proof

end
